-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v11_0)) (v1 : (c : Dev Cert.MidIdeal.nD) → Buf (Elt Ideal) ((c.tc : Thread Cert.MidIdeal.nD Cert.MidIdeal.τ).loc Cert.MidIdeal.main_v11_1)) (v2 : (c : Dev Cert.MidIdeal.nD) → Buf (Elt Ideal) ((c.tc : Thread Cert.MidIdeal.nD Cert.MidIdeal.τ).loc Cert.MidIdeal.main_v11_2)) (v3 : (c : Dev Cert.MidIdeal.nD) → Buf (Elt Ideal) ((c.tc : Thread Cert.MidIdeal.nD Cert.MidIdeal.τ).loc Cert.MidIdeal.main_v11_3)) (v4 : (c : Dev Cert.MidIdeal.nD) → Buf (Elt Ideal) ((c.tc : Thread Cert.MidIdeal.nD Cert.MidIdeal.τ).loc Cert.MidIdeal.main_v11_4)) (v5 : (c : Dev Cert.MidIdeal.nD) → Buf (Elt Ideal) ((c.tc : Thread Cert.MidIdeal.nD Cert.MidIdeal.τ).loc Cert.MidIdeal.main_v11_5)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v11_0) = v0 c
          ∧ r.2.mem ((c.tc : Thread Cert.MidIdeal.nD Cert.MidIdeal.τ).loc Cert.MidIdeal.main_v11_1) = v1 c
          ∧ r.2.mem ((c.tc : Thread Cert.MidIdeal.nD Cert.MidIdeal.τ).loc Cert.MidIdeal.main_v11_2) = v2 c
          ∧ r.2.mem ((c.tc : Thread Cert.MidIdeal.nD Cert.MidIdeal.τ).loc Cert.MidIdeal.main_v11_3) = v3 c
          ∧ r.2.mem ((c.tc : Thread Cert.MidIdeal.nD Cert.MidIdeal.τ).loc Cert.MidIdeal.main_v11_4) = v4 c
          ∧ r.2.mem ((c.tc : Thread Cert.MidIdeal.nD Cert.MidIdeal.τ).loc Cert.MidIdeal.main_v11_5) = v5 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v5) = v0 c
          ∧ r.2.mem ((c.tc : Thread Cert.MidReferenceIdeal.nD Cert.MidReferenceIdeal.τ).loc Cert.MidReferenceIdeal.main_v24) = v1 c
          ∧ r.2.mem ((c.tc : Thread Cert.MidReferenceIdeal.nD Cert.MidReferenceIdeal.τ).loc Cert.MidReferenceIdeal.main_v25) = v2 c
          ∧ r.2.mem ((c.tc : Thread Cert.MidReferenceIdeal.nD Cert.MidReferenceIdeal.τ).loc Cert.MidReferenceIdeal.main_v27) = v3 c
          ∧ r.2.mem ((c.tc : Thread Cert.MidReferenceIdeal.nD Cert.MidReferenceIdeal.τ).loc Cert.MidReferenceIdeal.main_v28) = v4 c
          ∧ r.2.mem ((c.tc : Thread Cert.MidReferenceIdeal.nD Cert.MidReferenceIdeal.τ).loc Cert.MidReferenceIdeal.main_v23) = v5 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5))

def preserves_Even_EvenIdeal : Prop :=
  True

def algebraic_EvenIdeal_EvenReferenceIdeal [hEvenIdeal : Cert.EvenIdeal.Facts] [hEvenReferenceIdeal : Cert.EvenReferenceIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenIdeal m →
    (∀ c : Dev Cert.EvenIdeal.nD,
      m' ((c.tc : Thread Cert.EvenReferenceIdeal.nD Cert.EvenReferenceIdeal.τ).loc Cert.EvenReferenceIdeal.main_arg0) = m ((c.tc : Thread Cert.EvenIdeal.nD Cert.EvenIdeal.τ).loc Cert.EvenIdeal.main_arg0)
      ∧ m' ((c.tc : Thread Cert.EvenReferenceIdeal.nD Cert.EvenReferenceIdeal.τ).loc Cert.EvenReferenceIdeal.main_arg1) = m ((c.tc : Thread Cert.EvenIdeal.nD Cert.EvenIdeal.τ).loc Cert.EvenIdeal.main_arg1)
      ∧ m' ((c.tc : Thread Cert.EvenReferenceIdeal.nD Cert.EvenReferenceIdeal.τ).loc Cert.EvenReferenceIdeal.main_arg2) = m ((c.tc : Thread Cert.EvenIdeal.nD Cert.EvenIdeal.τ).loc Cert.EvenIdeal.main_arg2)
      ∧ m' ((c.tc : Thread Cert.EvenReferenceIdeal.nD Cert.EvenReferenceIdeal.τ).loc Cert.EvenReferenceIdeal.main_arg3) = m ((c.tc : Thread Cert.EvenIdeal.nD Cert.EvenIdeal.τ).loc Cert.EvenIdeal.main_arg3)
      ∧ m' ((c.tc : Thread Cert.EvenReferenceIdeal.nD Cert.EvenReferenceIdeal.τ).loc Cert.EvenReferenceIdeal.main_arg4) = m ((c.tc : Thread Cert.EvenIdeal.nD Cert.EvenIdeal.τ).loc Cert.EvenIdeal.main_arg4)) →
    ∃ (v0 : (c : Dev Cert.EvenIdeal.nD) → Buf (Elt Ideal) ((c.tc : Thread Cert.EvenIdeal.nD Cert.EvenIdeal.τ).loc Cert.EvenIdeal.main_v30_0)) (v1 : (c : Dev Cert.EvenIdeal.nD) → Buf (Elt Ideal) ((c.tc : Thread Cert.EvenIdeal.nD Cert.EvenIdeal.τ).loc Cert.EvenIdeal.main_v30_1)) (v2 : (c : Dev Cert.EvenIdeal.nD) → Buf (Elt Ideal) ((c.tc : Thread Cert.EvenIdeal.nD Cert.EvenIdeal.τ).loc Cert.EvenIdeal.main_v30_2)) (v3 : (c : Dev Cert.EvenIdeal.nD) → Buf (Elt Ideal) ((c.tc : Thread Cert.EvenIdeal.nD Cert.EvenIdeal.τ).loc Cert.EvenIdeal.main_v30_3)) (v4 : (c : Dev Cert.EvenIdeal.nD) → Buf (Elt Ideal) ((c.tc : Thread Cert.EvenIdeal.nD Cert.EvenIdeal.τ).loc Cert.EvenIdeal.main_v30_4)) (v5 : (c : Dev Cert.EvenIdeal.nD) → Buf (Elt Ideal) ((c.tc : Thread Cert.EvenIdeal.nD Cert.EvenIdeal.τ).loc Cert.EvenIdeal.main_v30_5)) (v6 : (c : Dev Cert.EvenIdeal.nD) → Buf (Elt Ideal) ((c.tc : Thread Cert.EvenIdeal.nD Cert.EvenIdeal.τ).loc Cert.EvenIdeal.main_v30_6)) (v7 : (c : Dev Cert.EvenIdeal.nD) → Buf (Elt Ideal) ((c.tc : Thread Cert.EvenIdeal.nD Cert.EvenIdeal.τ).loc Cert.EvenIdeal.main_v30_7)) (v8 : (c : Dev Cert.EvenIdeal.nD) → Buf (Elt Ideal) ((c.tc : Thread Cert.EvenIdeal.nD Cert.EvenIdeal.τ).loc Cert.EvenIdeal.main_v30_8)) (v9 : (c : Dev Cert.EvenIdeal.nD) → Buf (Elt Ideal) ((c.tc : Thread Cert.EvenIdeal.nD Cert.EvenIdeal.τ).loc Cert.EvenIdeal.main_v30_9)) (v10 : (c : Dev Cert.EvenIdeal.nD) → Buf (Elt Ideal) ((c.tc : Thread Cert.EvenIdeal.nD Cert.EvenIdeal.τ).loc Cert.EvenIdeal.main_v30_10)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v30_0) = v0 c
          ∧ r.2.mem ((c.tc : Thread Cert.EvenIdeal.nD Cert.EvenIdeal.τ).loc Cert.EvenIdeal.main_v30_1) = v1 c
          ∧ r.2.mem ((c.tc : Thread Cert.EvenIdeal.nD Cert.EvenIdeal.τ).loc Cert.EvenIdeal.main_v30_2) = v2 c
          ∧ r.2.mem ((c.tc : Thread Cert.EvenIdeal.nD Cert.EvenIdeal.τ).loc Cert.EvenIdeal.main_v30_3) = v3 c
          ∧ r.2.mem ((c.tc : Thread Cert.EvenIdeal.nD Cert.EvenIdeal.τ).loc Cert.EvenIdeal.main_v30_4) = v4 c
          ∧ r.2.mem ((c.tc : Thread Cert.EvenIdeal.nD Cert.EvenIdeal.τ).loc Cert.EvenIdeal.main_v30_5) = v5 c
          ∧ r.2.mem ((c.tc : Thread Cert.EvenIdeal.nD Cert.EvenIdeal.τ).loc Cert.EvenIdeal.main_v30_6) = v6 c
          ∧ r.2.mem ((c.tc : Thread Cert.EvenIdeal.nD Cert.EvenIdeal.τ).loc Cert.EvenIdeal.main_v30_7) = v7 c
          ∧ r.2.mem ((c.tc : Thread Cert.EvenIdeal.nD Cert.EvenIdeal.τ).loc Cert.EvenIdeal.main_v30_8) = v8 c
          ∧ r.2.mem ((c.tc : Thread Cert.EvenIdeal.nD Cert.EvenIdeal.τ).loc Cert.EvenIdeal.main_v30_9) = v9 c
          ∧ r.2.mem ((c.tc : Thread Cert.EvenIdeal.nD Cert.EvenIdeal.τ).loc Cert.EvenIdeal.main_v30_10) = v10 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v34) = v0 c
          ∧ r.2.mem ((c.tc : Thread Cert.EvenReferenceIdeal.nD Cert.EvenReferenceIdeal.τ).loc Cert.EvenReferenceIdeal.main_v35) = v1 c
          ∧ r.2.mem ((c.tc : Thread Cert.EvenReferenceIdeal.nD Cert.EvenReferenceIdeal.τ).loc Cert.EvenReferenceIdeal.main_v36) = v2 c
          ∧ r.2.mem ((c.tc : Thread Cert.EvenReferenceIdeal.nD Cert.EvenReferenceIdeal.τ).loc Cert.EvenReferenceIdeal.main_v114) = v3 c
          ∧ r.2.mem ((c.tc : Thread Cert.EvenReferenceIdeal.nD Cert.EvenReferenceIdeal.τ).loc Cert.EvenReferenceIdeal.main_v116) = v4 c
          ∧ r.2.mem ((c.tc : Thread Cert.EvenReferenceIdeal.nD Cert.EvenReferenceIdeal.τ).loc Cert.EvenReferenceIdeal.main_v118) = v5 c
          ∧ r.2.mem ((c.tc : Thread Cert.EvenReferenceIdeal.nD Cert.EvenReferenceIdeal.τ).loc Cert.EvenReferenceIdeal.main_v120) = v6 c
          ∧ r.2.mem ((c.tc : Thread Cert.EvenReferenceIdeal.nD Cert.EvenReferenceIdeal.τ).loc Cert.EvenReferenceIdeal.main_v122) = v7 c
          ∧ r.2.mem ((c.tc : Thread Cert.EvenReferenceIdeal.nD Cert.EvenReferenceIdeal.τ).loc Cert.EvenReferenceIdeal.main_v124) = v8 c
          ∧ r.2.mem ((c.tc : Thread Cert.EvenReferenceIdeal.nD Cert.EvenReferenceIdeal.τ).loc Cert.EvenReferenceIdeal.main_v126) = v9 c
          ∧ r.2.mem ((c.tc : Thread Cert.EvenReferenceIdeal.nD Cert.EvenReferenceIdeal.τ).loc Cert.EvenReferenceIdeal.main_v128) = v10 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4))

def Claim : Prop :=
  ∃ (hKernel : Cert.Kernel.Facts) (hKernelIdeal : Cert.KernelIdeal.Facts) (hReferenceIdeal : Cert.ReferenceIdeal.Facts) (hMid : Cert.Mid.Facts) (hMidIdeal : Cert.MidIdeal.Facts) (hMidReferenceIdeal : Cert.MidReferenceIdeal.Facts) (hEven : Cert.Even.Facts) (hEvenIdeal : Cert.EvenIdeal.Facts) (hEvenReferenceIdeal : Cert.EvenReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mid (hMid := hMid)
    ∧ quiescent_MidIdeal (hMidIdeal := hMidIdeal)
    ∧ quiescent_MidReferenceIdeal (hMidReferenceIdeal := hMidReferenceIdeal)
    ∧ quiescent_Even (hEven := hEven)
    ∧ quiescent_EvenIdeal (hEvenIdeal := hEvenIdeal)
    ∧ quiescent_EvenReferenceIdeal (hEvenReferenceIdeal := hEvenReferenceIdeal)
    ∧ preserves_Kernel_KernelIdeal
    ∧ algebraic_KernelIdeal_ReferenceIdeal (hKernelIdeal := hKernelIdeal) (hReferenceIdeal := hReferenceIdeal)
    ∧ preserves_Mid_MidIdeal
    ∧ algebraic_MidIdeal_MidReferenceIdeal (hMidIdeal := hMidIdeal) (hMidReferenceIdeal := hMidReferenceIdeal)
    ∧ preserves_Even_EvenIdeal
    ∧ algebraic_EvenIdeal_EvenReferenceIdeal (hEvenIdeal := hEvenIdeal) (hEvenReferenceIdeal := hEvenReferenceIdeal)
-- ==== Kernel.lean ====
abbrev S32x2048x512 : Shape := ⟨3, ![32, 2048, 512]⟩
abbrev S32x2048x1024 : Shape := ⟨3, ![32, 2048, 1024]⟩
abbrev S32x2048x128 : Shape := ⟨3, ![32, 2048, 128]⟩
abbrev S1x2x16x512 : Shape := ⟨4, ![1, 2, 16, 512]⟩
abbrev S1x2x512 : Shape := ⟨3, ![1, 2, 512]⟩
abbrev S2x16x512 : Shape := ⟨3, ![2, 16, 512]⟩
abbrev S_ : Shape := ⟨0, ![]⟩
abbrev S2x128x512 : Shape := ⟨3, ![2, 128, 512]⟩
abbrev S2x512 : Shape := ⟨2, ![2, 512]⟩
abbrev S1x512x512 : Shape := ⟨3, ![1, 512, 512]⟩
abbrev S1x512x1024 : Shape := ⟨3, ![1, 512, 1024]⟩
abbrev S1x512x128 : Shape := ⟨3, ![1, 512, 128]⟩
abbrev S4x128x256 : Shape := ⟨3, ![4, 128, 256]⟩
abbrev S64x64 : Shape := ⟨2, ![64, 64]⟩
abbrev S1x128x512 : Shape := ⟨3, ![1, 128, 512]⟩
abbrev S128x512 : Shape := ⟨2, ![128, 512]⟩
abbrev S1x512 : Shape := ⟨2, ![1, 512]⟩
abbrev S512x128 : Shape := ⟨2, ![512, 128]⟩
abbrev S512x512 : Shape := ⟨2, ![512, 512]⟩
abbrev S64x512 : Shape := ⟨2, ![64, 512]⟩
abbrev S1x64x256 : Shape := ⟨3, ![1, 64, 256]⟩
abbrev S64x256 : Shape := ⟨2, ![64, 256]⟩
abbrev S64x128 : Shape := ⟨2, ![64, 128]⟩
abbrev S128x256 : Shape := ⟨2, ![128, 256]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S1x128x256 : Shape := ⟨3, ![1, 128, 256]⟩

abbrev nBuf : Space → Nat
  | .hbm => 13
  | .vmem => 13
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x1024, .bf16⟩
  | .hbm, ⟨3, _⟩ => ⟨S32x2048x128, .f32⟩
  | .hbm, ⟨4, _⟩ => ⟨S1x2x16x512, .f32⟩
  | .hbm, ⟨5, _⟩ => ⟨S1x2x512, .f32⟩
  | .hbm, ⟨6, _⟩ => ⟨S2x16x512, .f32⟩
  | .hbm, ⟨7, _⟩ => ⟨S_, .i32⟩
  | .hbm, ⟨8, _⟩ => ⟨S_, .f32⟩
  | .hbm, ⟨9, _⟩ => ⟨S2x128x512, .f32⟩
  | .hbm, ⟨10, _⟩ => ⟨S2x512, .f32⟩
  | .hbm, ⟨11, _⟩ => ⟨S2x128x512, .bf16⟩
  | .hbm, ⟨12, _⟩ => ⟨S32x2048x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x128, .f32⟩
  | .local _ .vmem, ⟨7, _⟩ => ⟨S1x512x128, .f32⟩
  | .local _ .vmem, ⟨8, _⟩ => ⟨S2x128x512, .bf16⟩
  | .local _ .vmem, ⟨9, _⟩ => ⟨S2x512, .f32⟩
  | .local _ .vmem, ⟨10, _⟩ => ⟨S1x512x1024, .f32⟩
  | .local _ .vmem, ⟨11, _⟩ => ⟨S1x512x1024, .f32⟩
  | .local _ .vmem, ⟨12, _⟩ => ⟨S4x128x256, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32x2048x512 : Shape := ⟨3, ![32, 2048, 512]⟩
abbrev S32x2048x1024 : Shape := ⟨3, ![32, 2048, 1024]⟩
abbrev S32x2048x128 : Shape := ⟨3, ![32, 2048, 128]⟩
abbrev S1x2x16x512 : Shape := ⟨4, ![1, 2, 16, 512]⟩
abbrev S1x2x512 : Shape := ⟨3, ![1, 2, 512]⟩
abbrev S32x2048x4x128 : Shape := ⟨4, ![32, 2048, 4, 128]⟩
abbrev S_ : Shape := ⟨0, ![]⟩
abbrev S32x2048x4x256 : Shape := ⟨4, ![32, 2048, 4, 256]⟩
abbrev S32x2048x16 : Shape := ⟨3, ![32, 2048, 16]⟩
abbrev S1x1x16x512 : Shape := ⟨4, ![1, 1, 16, 512]⟩
abbrev S16x512 : Shape := ⟨2, ![16, 512]⟩
abbrev S1x1x512 : Shape := ⟨3, ![1, 1, 512]⟩
abbrev S512 : Shape := ⟨1, ![512]⟩
abbrev S32x32x64x4x128 : Shape := ⟨5, ![32, 32, 64, 4, 128]⟩
abbrev S32x32x4x64x128 : Shape := ⟨5, ![32, 32, 4, 64, 128]⟩
abbrev S32x32x64x4x256 : Shape := ⟨5, ![32, 32, 64, 4, 256]⟩
abbrev S32x32x4x64x256 : Shape := ⟨5, ![32, 32, 4, 64, 256]⟩
abbrev S64x64 : Shape := ⟨2, ![64, 64]⟩
abbrev S32x32x4x64x64 : Shape := ⟨5, ![32, 32, 4, 64, 64]⟩
abbrev S32x32x4x1x128 : Shape := ⟨5, ![32, 32, 4, 1, 128]⟩
abbrev S32x32x4x128 : Shape := ⟨4, ![32, 32, 4, 128]⟩
abbrev S32x4x128x256 : Shape := ⟨4, ![32, 4, 128, 256]⟩
abbrev S1x32x4x64x128 : Shape := ⟨5, ![1, 32, 4, 64, 128]⟩
abbrev S32x4x64x128 : Shape := ⟨4, ![32, 4, 64, 128]⟩
abbrev S1x32x4x64x256 : Shape := ⟨5, ![1, 32, 4, 64, 256]⟩
abbrev S32x4x64x256 : Shape := ⟨4, ![32, 4, 64, 256]⟩
abbrev S1x32x4x128 : Shape := ⟨4, ![1, 32, 4, 128]⟩
abbrev S32x4x128 : Shape := ⟨3, ![32, 4, 128]⟩
abbrev S32x4x128x1 : Shape := ⟨4, ![32, 4, 128, 1]⟩

abbrev nBuf : Space → Nat
  | .hbm => 139
  | .vmem => 0
  | .smem => 0
  | _ => 0

abbrev hbmTy0_0 (i : Nat) : BufTy := match i % 128 with
  | 0 => ⟨S32x2048x512, .f32⟩
  | 1 => ⟨S32x2048x512, .f32⟩
  | 2 => ⟨S32x2048x1024, .bf16⟩
  | 3 => ⟨S32x2048x128, .f32⟩
  | 4 => ⟨S1x2x16x512, .f32⟩
  | 5 => ⟨S1x2x512, .f32⟩
  | 6 => ⟨S32x2048x4x128, .f32⟩
  | 7 => ⟨S_, .f32⟩
  | 8 => ⟨S32x2048x4x128, .f32⟩
  | 9 => ⟨S32x2048x4x128, .f32⟩
  | 10 => ⟨S32x2048x4x128, .f32⟩
  | 11 => ⟨S32x2048x1024, .f32⟩
  | 12 => ⟨S32x2048x4x256, .f32⟩
  | 13 => ⟨S32x2048x16, .f32⟩
  | 14 => ⟨S1x1x16x512, .f32⟩
  | 15 => ⟨S16x512, .f32⟩
  | 16 => ⟨S32x2048x512, .f32⟩
  | 17 => ⟨S1x1x512, .f32⟩
  | 18 => ⟨S512, .f32⟩
  | 19 => ⟨S1x1x512, .f32⟩
  | 20 => ⟨S32x2048x512, .f32⟩
  | 21 => ⟨S32x2048x512, .f32⟩
  | 22 => ⟨S32x2048x512, .f32⟩
  | 23 => ⟨S_, .f32⟩
  | 24 => ⟨S32x2048x512, .f32⟩
  | 25 => ⟨S32x2048x512, .f32⟩
  | 26 => ⟨S32x2048x512, .f32⟩
  | 27 => ⟨S32x2048x512, .f32⟩
  | 28 => ⟨S32x2048x512, .f32⟩
  | 29 => ⟨S32x2048x512, .f32⟩
  | 30 => ⟨S32x2048x512, .f32⟩
  | 31 => ⟨S32x2048x512, .f32⟩
  | 32 => ⟨S_, .f32⟩
  | 33 => ⟨S32x2048x512, .f32⟩
  | 34 => ⟨S32x2048x512, .f32⟩
  | 35 => ⟨S32x2048x4x128, .f32⟩
  | 36 => ⟨S32x32x64x4x128, .f32⟩
  | 37 => ⟨S32x32x4x64x128, .f32⟩
  | 38 => ⟨S32x32x64x4x128, .f32⟩
  | 39 => ⟨S32x32x4x64x128, .f32⟩
  | 40 => ⟨S32x32x64x4x256, .f32⟩
  | 41 => ⟨S32x32x4x64x256, .f32⟩
  | 42 => ⟨S32x32x64x4x128, .f32⟩
  | 43 => ⟨S32x32x4x64x128, .f32⟩
  | 44 => ⟨S_, .f32⟩
  | 45 => ⟨S_, .f32⟩
  | 46 => ⟨S32x32x4x64x128, .f32⟩
  | 47 => ⟨S32x32x4x64x128, .f32⟩
  | 48 => ⟨S32x32x4x64x128, .f32⟩
  | 49 => ⟨S32x32x4x64x128, .f32⟩
  | 50 => ⟨S32x32x4x64x128, .f32⟩
  | 51 => ⟨S32x32x4x64x128, .f32⟩
  | 52 => ⟨S_, .i1⟩
  | 53 => ⟨S64x64, .i1⟩
  | 54 => ⟨S64x64, .i32⟩
  | 55 => ⟨S_, .i32⟩
  | 56 => ⟨S64x64, .i32⟩
  | 57 => ⟨S64x64, .i32⟩
  | 58 => ⟨S64x64, .i32⟩
  | 59 => ⟨S64x64, .i1⟩
  | 60 => ⟨S_, .i1⟩
  | 61 => ⟨S64x64, .i1⟩
  | 62 => ⟨S64x64, .i1⟩
  | 63 => ⟨S32x32x4x64x64, .f32⟩
  | 64 => ⟨S_, .f32⟩
  | 65 => ⟨S_, .f32⟩
  | 66 => ⟨S32x32x4x64x64, .i1⟩
  | 67 => ⟨S32x32x4x64x64, .f32⟩
  | 68 => ⟨S32x32x4x64x64, .f32⟩
  | 69 => ⟨S32x32x4x64x256, .f32⟩
  | 70 => ⟨S32x32x4x1x128, .f32⟩
  | 71 => ⟨S32x32x4x64x128, .f32⟩
  | 72 => ⟨S32x32x4x64x128, .f32⟩
  | 73 => ⟨S32x32x4x64x128, .f32⟩
  | 74 => ⟨S32x32x4x64x128, .f32⟩
  | 75 => ⟨S32x32x4x128, .f32⟩
  | 76 => ⟨S32x32x4x128, .f32⟩
  | 77 => ⟨S_, .f32⟩
  | 78 => ⟨S32x4x128x256, .f32⟩
  | 79 => ⟨S_, .f32⟩
  | 80 => ⟨S32x32x4x64x256, .f32⟩
  | 81 => ⟨S_, .i32⟩
  | 82 => ⟨S32x32x4x64x128, .f32⟩
  | 83 => ⟨S32x32x4x64x128, .f32⟩
  | 84 => ⟨S32x32x4x64x256, .f32⟩
  | 85 => ⟨S32x32x4x128, .f32⟩
  | 86 => ⟨S32x32x4x64x256, .f32⟩
  | 87 => ⟨S_, .i32⟩
  | 88 => ⟨S32x4x128x256, .f32⟩
  | 89 => ⟨S32x32x4x64x256, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x32x4x64x128, .f32⟩
  | 97 => ⟨S32x4x64x128, .f32⟩
  | 98 => ⟨S_, .i32⟩
  | 99 => ⟨S_, .i32⟩
  | 100 => ⟨S_, .i32⟩
  | 101 => ⟨S_, .i32⟩
  | 102 => ⟨S1x32x4x64x128, .f32⟩
  | 103 => ⟨S32x4x64x128, .f32⟩
  | 104 => ⟨S_, .i32⟩
  | 105 => ⟨S_, .i32⟩
  | 106 => ⟨S_, .i32⟩
  | 107 => ⟨S_, .i32⟩
  | 108 => ⟨S1x32x4x64x256, .f32⟩
  | 109 => ⟨S32x4x64x256, .f32⟩
  | 110 => ⟨S_, .i32⟩
  | 111 => ⟨S_, .i32⟩
  | 112 => ⟨S_, .i32⟩
  | 113 => ⟨S1x32x4x128, .f32⟩
  | 114 => ⟨S32x4x128, .f32⟩
  | 115 => ⟨S_, .i32⟩
  | 116 => ⟨S_, .i32⟩
  | 117 => ⟨S_, .i32⟩
  | 118 => ⟨S_, .i32⟩
  | 119 => ⟨S1x32x4x64x256, .f32⟩
  | 120 => ⟨S32x4x64x256, .f32⟩
  | 121 => ⟨S32x4x64x256, .f32⟩
  | 122 => ⟨S32x4x64x256, .f32⟩
  | 123 => ⟨S32x4x128x1, .f32⟩
  | 124 => ⟨S32x4x128x256, .f32⟩
  | 125 => ⟨S32x4x128x256, .f32⟩
  | 126 => ⟨S32x4x128x256, .f32⟩
  | 127 => ⟨S32x4x128x256, .f32⟩
  | _ => ⟨S32x2048x512, .f32⟩

abbrev hbmTy0_1 (i : Nat) : BufTy := match i % 128 with
  | 0 => ⟨S1x32x4x64x256, .f32⟩
  | 1 => ⟨S_, .i32⟩
  | 2 => ⟨S_, .i32⟩
  | 3 => ⟨S_, .i32⟩
  | 4 => ⟨S_, .i32⟩
  | 5 => ⟨S32x32x4x64x256, .f32⟩
  | 6 => ⟨S_, .i32⟩
  | 7 => ⟨S_, .i32⟩
  | 8 => ⟨S32x32x64x4x256, .f32⟩
  | 9 => ⟨S32x2048x4x256, .f32⟩
  | 10 => ⟨S32x2048x1024, .f32⟩
  | _ => ⟨S32x2048x512, .f32⟩

abbrev hbmTy (i : Nat) : BufTy := match i / 128 with
  | 0 => hbmTy0_0 i
  | 1 => hbmTy0_1 i
  | _ => ⟨S32x2048x512, .f32⟩

abbrev bufTy : (tb : Table) → Fin (tcTables nBuf tb) → BufTy
  | .hbm, ⟨i, _⟩ => hbmTy i
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_call0_call0_cst : Ref sig .tc := ⟨.hbm, 44, rfl⟩
abbrev main_call0_call0_v0 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c : Ref sig .tc := ⟨.hbm, 52, rfl⟩
abbrev main_v41 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_0 : Ref sig .tc := ⟨.hbm, 60, rfl⟩
abbrev main_call1_v5 : Ref sig .tc := ⟨.hbm, 61, rfl⟩
abbrev main_v42 : Ref sig .tc := ⟨.hbm, 62, rfl⟩
abbrev main_v43 : Ref sig .tc := ⟨.hbm, 63, rfl⟩
abbrev main_cst_2 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev main_cst_4 : Ref sig .tc := ⟨.hbm, 79, rfl⟩
abbrev main_v54 : Ref sig .tc := ⟨.hbm, 80, rfl⟩
abbrev main_c_5 : Ref sig .tc := ⟨.hbm, 81, rfl⟩
abbrev main_v55_0 : Ref sig .tc := ⟨.hbm, 82, rfl⟩
abbrev main_v55_1 : Ref sig .tc := ⟨.hbm, 83, rfl⟩
abbrev main_v55_2 : Ref sig .tc := ⟨.hbm, 84, rfl⟩
abbrev main_v55_3 : Ref sig .tc := ⟨.hbm, 85, rfl⟩
abbrev main_v55_4 : Ref sig .tc := ⟨.hbm, 86, rfl⟩
abbrev main_v55_5 : Ref sig .tc := ⟨.hbm, 87, rfl⟩
abbrev main_v55_6 : Ref sig .tc := ⟨.hbm, 88, rfl⟩
abbrev main_v55_7 : Ref sig .tc := ⟨.hbm, 89, rfl⟩
abbrev main_while0c_c_13 : Ref sig .tc := ⟨.hbm, 90, rfl⟩
abbrev main_while0c_v59 : Ref sig .tc := ⟨.hbm, 91, rfl⟩
abbrev main_while0b_call3_c : Ref sig .tc := ⟨.hbm, 92, rfl⟩
abbrev main_while0b_call3_c_0 : Ref sig .tc := ⟨.hbm, 93, rfl⟩
abbrev main_while0b_call3_c_1 : Ref sig .tc := ⟨.hbm, 94, rfl⟩
abbrev main_while0b_call3_c_2 : Ref sig .tc := ⟨.hbm, 95, rfl⟩
abbrev main_while0b_call3_v0 : Ref sig .tc := ⟨.hbm, 96, rfl⟩
abbrev main_while0b_v59 : Ref sig .tc := ⟨.hbm, 97, rfl⟩
abbrev main_while0b_call4_c : Ref sig .tc := ⟨.hbm, 98, rfl⟩
abbrev main_while0b_call4_c_0 : Ref sig .tc := ⟨.hbm, 99, rfl⟩
abbrev main_while0b_call4_c_1 : Ref sig .tc := ⟨.hbm, 100, rfl⟩
abbrev main_while0b_call4_c_2 : Ref sig .tc := ⟨.hbm, 101, rfl⟩
abbrev main_while0b_call4_v0 : Ref sig .tc := ⟨.hbm, 102, rfl⟩
abbrev main_while0b_v60 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_call5_c_2 : Ref sig .tc := ⟨.hbm, 107, rfl⟩
abbrev main_while0b_call5_v0 : Ref sig .tc := ⟨.hbm, 108, rfl⟩
abbrev main_while0b_v61 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_v0 : Ref sig .tc := ⟨.hbm, 113, rfl⟩
abbrev main_while0b_v62 : Ref sig .tc := ⟨.hbm, 114, rfl⟩
abbrev main_while0b_call7_c : Ref sig .tc := ⟨.hbm, 115, rfl⟩
abbrev main_while0b_call7_c_0 : Ref sig .tc := ⟨.hbm, 116, rfl⟩
abbrev main_while0b_call7_c_1 : Ref sig .tc := ⟨.hbm, 117, rfl⟩
abbrev main_while0b_call7_c_2 : Ref sig .tc := ⟨.hbm, 118, rfl⟩
abbrev main_while0b_call7_v0 : Ref sig .tc := ⟨.hbm, 119, rfl⟩
abbrev main_while0b_v63 : Ref sig .tc := ⟨.hbm, 120, rfl⟩
abbrev main_while0b_v64 : Ref sig .tc := ⟨.hbm, 121, rfl⟩
abbrev main_while0b_v65 : Ref sig .tc := ⟨.hbm, 122, rfl⟩
abbrev main_while0b_v66 : Ref sig .tc := ⟨.hbm, 123, rfl⟩
abbrev main_while0b_v67 : Ref sig .tc := ⟨.hbm, 124, rfl⟩
abbrev main_while0b_v68 : Ref sig .tc := ⟨.hbm, 125, rfl⟩
abbrev main_while0b_v69 : Ref sig .tc := ⟨.hbm, 126, rfl⟩
abbrev main_while0b_v70 : Ref sig .tc := ⟨.hbm, 127, rfl⟩
abbrev main_while0b_call8_v0 : Ref sig .tc := ⟨.hbm, 128, rfl⟩
abbrev main_while0b_call8_c : Ref sig .tc := ⟨.hbm, 129, rfl⟩
abbrev main_while0b_call8_c_0 : Ref sig .tc := ⟨.hbm, 130, rfl⟩
abbrev main_while0b_call8_c_1 : Ref sig .tc := ⟨.hbm, 131, rfl⟩
abbrev main_while0b_call8_c_2 : Ref sig .tc := ⟨.hbm, 132, rfl⟩
abbrev main_while0b_v71 : Ref sig .tc := ⟨.hbm, 133, rfl⟩
abbrev main_while0b_c_13 : Ref sig .tc := ⟨.hbm, 134, rfl⟩
abbrev main_while0b_v72 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩

abbrev nD : Nat := 1
abbrev τ : Topo := Topo.v7x

variable {F : FTy → Type} [FloatOps F]

abbrev main_while0_count : Scf.Loop 32 := ⟨0#32, 32#32, 1#32⟩
-- ==== Mid.lean ====
abbrev S65536x1024 : Shape := ⟨2, ![65536, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x3088 : Shape := ⟨3, ![1, 1024, 3088]⟩
abbrev S1024x3088 : Shape := ⟨2, ![1024, 3088]⟩
abbrev S1024x16 : Shape := ⟨2, ![1024, 16]⟩
abbrev S_ : Shape := ⟨0, ![]⟩
abbrev S1024x128 : Shape := ⟨2, ![1024, 128]⟩
abbrev S1024x2048 : Shape := ⟨2, ![1024, 2048]⟩
abbrev S1024x1024 : Shape := ⟨2, ![1024, 1024]⟩
abbrev S1024x3200 : Shape := ⟨2, ![1024, 3200]⟩
abbrev S1024 : Shape := ⟨1, ![1024]⟩
abbrev S65536x128 : Shape := ⟨2, ![65536, 128]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 25
  | .vmem => 21
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1x1024x1024, .f32⟩
  | .hbm, ⟨4, _⟩ => ⟨S1x1024, .f32⟩
  | .hbm, ⟨5, _⟩ => ⟨S1x1024x3088, .f32⟩
  | .hbm, ⟨6, _⟩ => ⟨S1024x3088, .f32⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x2048, .f32⟩
  | .hbm, ⟨12, _⟩ => ⟨S1024x1024, .f32⟩
  | .hbm, ⟨13, _⟩ => ⟨S1024x3200, .f32⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1024x3200, .bf16⟩
  | .hbm, ⟨18, _⟩ => ⟨S1x1024, .f32⟩
  | .hbm, ⟨19, _⟩ => ⟨S65536x1024, .f32⟩
  | .hbm, ⟨20, _⟩ => ⟨S65536x512, .f32⟩
  | .hbm, ⟨21, _⟩ => ⟨S65536x512, .f32⟩
  | .hbm, ⟨22, _⟩ => ⟨S65536x1024, .bf16⟩
  | .hbm, ⟨23, _⟩ => ⟨S65536x1024, .f32⟩
  | .hbm, ⟨24, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x3200, .bf16⟩
  | .local _ .vmem, ⟨9, _⟩ => ⟨S1024x1024, .f32⟩
  | .local _ .vmem, ⟨10, _⟩ => ⟨S1024x1024, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x128, .f32⟩
  | .local _ .vmem, ⟨20, _⟩ => ⟨S1024x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MidReferenceIdeal.lean ====
abbrev S65536x1024 : Shape := ⟨2, ![65536, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x3088 : Shape := ⟨3, ![1, 1024, 3088]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x3088 : Shape := ⟨2, ![1024, 3088]⟩
abbrev S65536x3088 : Shape := ⟨2, ![65536, 3088]⟩
abbrev S65536x16 : Shape := ⟨2, ![65536, 16]⟩
abbrev S65536x128 : Shape := ⟨2, ![65536, 128]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1x1024x1024, .f32⟩
  | .hbm, ⟨4, _⟩ => ⟨S1x1024, .f32⟩
  | .hbm, ⟨5, _⟩ => ⟨S1x1024x3088, .f32⟩
  | .hbm, ⟨6, _⟩ => ⟨S65536x512, .f32⟩
  | .hbm, ⟨7, _⟩ => ⟨S65536x512, .f32⟩
  | .hbm, ⟨8, _⟩ => ⟨S65536x1024, .f32⟩
  | .hbm, ⟨9, _⟩ => ⟨S1024x1024, .f32⟩
  | .hbm, ⟨10, _⟩ => ⟨S65536x1024, .f32⟩
  | .hbm, ⟨11, _⟩ => ⟨S65536x1024, .f32⟩
  | .hbm, ⟨12, _⟩ => ⟨S1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S1024x3088, .f32⟩
  | .hbm, ⟨30, _⟩ => ⟨S65536x3088, .f32⟩
  | .hbm, ⟨31, _⟩ => ⟨S65536x16, .f32⟩
  | .hbm, ⟨32, _⟩ => ⟨S_, .i32⟩
  | .hbm, ⟨33, _⟩ => ⟨S_, .f32⟩
  | .hbm, ⟨34, _⟩ => ⟨S65536x128, .f32⟩
  | .hbm, ⟨35, _⟩ => ⟨S65536x512, .f32⟩
  | .hbm, ⟨36, _⟩ => ⟨S65536x512, .f32⟩
  | .hbm, ⟨37, _⟩ => ⟨S65536x1024, .f32⟩
  | .hbm, ⟨38, _⟩ => ⟨S65536x1024, .bf16⟩
  | .hbm, ⟨39, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Even.lean ====
abbrev S65536x1024 : Shape := ⟨2, ![65536, 1024]⟩
abbrev S1x1024 : Shape := ⟨2, ![1, 1024]⟩
abbrev S1x1024x4224 : Shape := ⟨3, ![1, 1024, 4224]⟩
abbrev S1x1664 : Shape := ⟨2, ![1, 1664]⟩
abbrev S1024 : Shape := ⟨1, ![1024]⟩
abbrev S1024x4224 : Shape := ⟨2, ![1024, 4224]⟩
abbrev S1664 : Shape := ⟨1, ![1664]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S65536x1664 : Shape := ⟨2, ![65536, 1664]⟩
abbrev S65536x512 : Shape := ⟨2, ![65536, 512]⟩
abbrev S32x4x512x512 : Shape := ⟨4, ![32, 4, 512, 512]⟩
abbrev S32x16x128x512 : Shape := ⟨4, ![32, 16, 128, 512]⟩
abbrev S32x1x2048x512 : Shape := ⟨4, ![32, 1, 2048, 512]⟩
abbrev S512x1024 : Shape := ⟨2, ![512, 1024]⟩
abbrev S8x1024 : Shape := ⟨2, ![8, 1024]⟩
abbrev S512x128 : Shape := ⟨2, ![512, 128]⟩
abbrev S512x1664 : Shape := ⟨2, ![512, 1664]⟩
abbrev S512x512 : Shape := ⟨2, ![512, 512]⟩
abbrev S1x4x128x512 : Shape := ⟨4, ![1, 4, 128, 512]⟩
abbrev S1x16x32x512 : Shape := ⟨4, ![1, 16, 32, 512]⟩
abbrev S1x1x512x512 : Shape := ⟨4, ![1, 1, 512, 512]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S528x1024 : Shape := ⟨2, ![528, 1024]⟩
abbrev S1024x512 : Shape := ⟨2, ![1024, 512]⟩
abbrev S528x512 : Shape := ⟨2, ![528, 512]⟩
abbrev S528x128 : Shape := ⟨2, ![528, 128]⟩
abbrev S1x128 : Shape := ⟨2, ![1, 128]⟩
abbrev S128x128 : Shape := ⟨2, ![128, 128]⟩
abbrev S1x1x128x128 : Shape := ⟨4, ![1, 1, 128, 128]⟩
abbrev S32x128 : Shape := ⟨2, ![32, 128]⟩
abbrev S1x1x32x128 : Shape := ⟨4, ![1, 1, 32, 128]⟩
abbrev S1x1x512x128 : Shape := ⟨4, ![1, 1, 512, 128]⟩
abbrev S1024x128 : Shape := ⟨2, ![1024, 128]⟩

abbrev nBuf : Space → Nat
  | .hbm => 50
  | .vmem => 52
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x4224, .f32⟩
  | .hbm, ⟨3, _⟩ => ⟨S1x1664, .f32⟩
  | .hbm, ⟨4, _⟩ => ⟨S1x1664, .f32⟩
  | .hbm, ⟨5, _⟩ => ⟨S1024, .f32⟩
  | .hbm, ⟨6, _⟩ => ⟨S1024x4224, .f32⟩
  | .hbm, ⟨7, _⟩ => ⟨S1024x4224, .bf16⟩
  | .hbm, ⟨8, _⟩ => ⟨S1664, .f32⟩
  | .hbm, ⟨9, _⟩ => ⟨S1664, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S2048, .f32⟩
  | .hbm, ⟨25, _⟩ => ⟨S2048x1, .f32⟩
  | .hbm, ⟨26, _⟩ => ⟨S1x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x128, .f32⟩
  | .hbm, ⟨33, _⟩ => ⟨S2048x32, .f32⟩
  | .hbm, ⟨34, _⟩ => ⟨S2048x32, .f32⟩
  | .hbm, ⟨35, _⟩ => ⟨S2048x128, .f32⟩
  | .hbm, ⟨36, _⟩ => ⟨S1x1024, .f32⟩
  | .hbm, ⟨37, _⟩ => ⟨S1x1664, .f32⟩
  | .hbm, ⟨38, _⟩ => ⟨S1x1664, .f32⟩
  | .hbm, ⟨39, _⟩ => ⟨S65536x1664, .f32⟩
  | .hbm, ⟨40, _⟩ => ⟨S65536x512, .f32⟩
  | .hbm, ⟨41, _⟩ => ⟨S65536x512, .f32⟩
  | .hbm, ⟨42, _⟩ => ⟨S32x4x512x512, .bf16⟩
  | .hbm, ⟨43, _⟩ => ⟨S32x16x128x512, .bf16⟩
  | .hbm, ⟨44, _⟩ => ⟨S32x1x2048x512, .bf16⟩
  | .hbm, ⟨45, _⟩ => ⟨S32x4x512x512, .bf16⟩
  | .hbm, ⟨46, _⟩ => ⟨S32x16x128x512, .bf16⟩
  | .hbm, ⟨47, _⟩ => ⟨S32x1x2048x512, .bf16⟩
  | .hbm, ⟨48, _⟩ => ⟨S32x4x512x512, .bf16⟩
  | .hbm, ⟨49, _⟩ => ⟨S32x16x128x512, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x4224, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x1664, .f32⟩
  | .local _ .vmem, ⟨13, _⟩ => ⟨S1x1664, .f32⟩
  | .local _ .vmem, ⟨14, _⟩ => ⟨S512x1664, .f32⟩
  | .local _ .vmem, ⟨15, _⟩ => ⟨S512x1664, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S1x4x128x512, .bf16⟩
  | .local _ .vmem, ⟨21, _⟩ => ⟨S1x4x128x512, .bf16⟩
  | .local _ .vmem, ⟨22, _⟩ => ⟨S1x16x32x512, .bf16⟩
  | .local _ .vmem, ⟨23, _⟩ => ⟨S1x16x32x512, .bf16⟩
  | .local _ .vmem, ⟨24, _⟩ => ⟨S1x1x512x512, .bf16⟩
  | .local _ .vmem, ⟨25, _⟩ => ⟨S1x1x512x512, .bf16⟩
  | .local _ .vmem, ⟨26, _⟩ => ⟨S1x4x128x512, .bf16⟩
  | .local _ .vmem, ⟨27, _⟩ => ⟨S1x4x128x512, .bf16⟩
  | .local _ .vmem, ⟨28, _⟩ => ⟨S1x16x32x512, .bf16⟩
  | .local _ .vmem, ⟨29, _⟩ => ⟨S1x16x32x512, .bf16⟩
  | .local _ .vmem, ⟨30, _⟩ => ⟨S1x1x512x512, .bf16⟩
  | .local _ .vmem, ⟨31, _⟩ => ⟨S1x1x512x512, .bf16⟩
  | .local _ .vmem, ⟨32, _⟩ => ⟨S1x4x128x512, .bf16⟩
  | .local _ .vmem, ⟨33, _⟩ => ⟨S1x4x128x512, .bf16⟩
  | .local _ .vmem, ⟨34, _⟩ => ⟨S1x16x32x512, .bf16⟩
  | .local _ .vmem, ⟨35, _⟩ => ⟨S1x16x32x512, .bf16⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x128, .f32⟩
  | .local _ .vmem, ⟨41, _⟩ => ⟨S512x128, .f32⟩
  | .local _ .vmem, ⟨42, _⟩ => ⟨S512x128, .f32⟩
  | .local _ .vmem, ⟨43, _⟩ => ⟨S512x128, .f32⟩
  | .local _ .vmem, ⟨44, _⟩ => ⟨S512x128, .f32⟩
  | .local _ .vmem, ⟨45, _⟩ => ⟨S512x128, .f32⟩
  | .local _ .vmem, ⟨46, _⟩ => ⟨S512x128, .f32⟩
  | .local _ .vmem, ⟨47, _⟩ => ⟨S512x128, .f32⟩
  | .local _ .vmem, ⟨48, _⟩ => ⟨S512x128, .f32⟩
  | .local _ .vmem, ⟨49, _⟩ => ⟨S512x128, .f32⟩
  | .local _ .vmem, ⟨50, _⟩ => ⟨S512x128, .f32⟩
  | .local _ .vmem, ⟨51, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v30_4 : Ref sig .tc := ⟨.hbm, 43, rfl⟩
abbrev main_v30_5 : Ref sig .tc := ⟨.hbm, 44, rfl⟩
abbrev main_v30_6 : Ref sig .tc := ⟨.hbm, 45, rfl⟩
abbrev main_v30_7 : Ref sig .tc := ⟨.hbm, 46, rfl⟩
abbrev main_v30_8 : Ref sig .tc := ⟨.hbm, 47, rfl⟩
abbrev main_v30_9 : Ref sig .tc := ⟨.hbm, 48, rfl⟩
abbrev main_v30_10 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_scratch8 : Ref sig .tc := ⟨.vmem, 44, rfl⟩
abbrev cc0_scratch9 : Ref sig .tc := ⟨.vmem, 45, rfl⟩
abbrev cc0_scratch10 : Ref sig .tc := ⟨.vmem, 46, rfl⟩
abbrev cc0_scratch11 : Ref sig .tc := ⟨.vmem, 47, rfl⟩
abbrev cc0_scratch12 : Ref sig .tc := ⟨.vmem, 48, rfl⟩
abbrev cc0_scratch13 : Ref sig .tc := ⟨.vmem, 49, rfl⟩
abbrev cc0_scratch14 : Ref sig .tc := ⟨.vmem, 50, rfl⟩
abbrev cc0_scratch15 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_18 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_19 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1664 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1664 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1664 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x32x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x32x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x16x32x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== EvenReferenceIdeal.lean ====
abbrev S65536x1024 : Shape := ⟨2, ![65536, 1024]⟩
abbrev S1x1024 : Shape := ⟨2, ![1, 1024]⟩
abbrev S1x1024x4224 : Shape := ⟨3, ![1, 1024, 4224]⟩
abbrev S1x1664 : Shape := ⟨2, ![1, 1664]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x4224 : Shape := ⟨2, ![1024, 4224]⟩
abbrev S65536x4224 : Shape := ⟨2, ![65536, 4224]⟩
abbrev S65536x1664 : Shape := ⟨2, ![65536, 1664]⟩
abbrev S32x2048x1664 : Shape := ⟨3, ![32, 2048, 1664]⟩
abbrev S1664 : Shape := ⟨1, ![1664]⟩
abbrev S32x2047x1664 : Shape := ⟨3, ![32, 2047, 1664]⟩
abbrev S1x1x1664 : Shape := ⟨3, ![1, 1, 1664]⟩
abbrev S65536x512 : Shape := ⟨2, ![65536, 512]⟩
abbrev S32x2048x8x64 : Shape := ⟨4, ![32, 2048, 8, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S32x2048x8x32 : Shape := ⟨4, ![32, 2048, 8, 32]⟩
abbrev S32x512x4x512 : Shape := ⟨4, ![32, 512, 4, 512]⟩
abbrev S32x4x512x512 : Shape := ⟨4, ![32, 4, 512, 512]⟩
abbrev S32x128x16x512 : Shape := ⟨4, ![32, 128, 16, 512]⟩
abbrev S32x16x128x512 : Shape := ⟨4, ![32, 16, 128, 512]⟩
abbrev S32x2048x1x512 : Shape := ⟨4, ![32, 2048, 1, 512]⟩
abbrev S32x1x2048x512 : Shape := ⟨4, ![32, 1, 2048, 512]⟩

abbrev nBuf : Space → Nat
  | .hbm => 150
  | .vmem => 0
  | .smem => 0
  | _ => 0

abbrev hbmTy0_0 (i : Nat) : BufTy := match i % 128 with
  | 0 => ⟨S65536x1024, .f32⟩
  | 1 => ⟨S1x1024, .f32⟩
  | 2 => ⟨S1x1024x4224, .f32⟩
  | 3 => ⟨S1x1664, .f32⟩
  | 4 => ⟨S1x1664, .f32⟩
  | 5 => ⟨S1024, .f32⟩
  | 6 => ⟨S65536x1024, .f32⟩
  | 7 => ⟨S_, .f32⟩
  | 8 => ⟨S65536, .f32⟩
  | 9 => ⟨S65536x1, .f32⟩
  | 10 => ⟨S_, .f32⟩
  | 11 => ⟨S65536x1, .f32⟩
  | 12 => ⟨S65536x1, .f32⟩
  | 13 => ⟨S_, .f32⟩
  | 14 => ⟨S65536x1, .f32⟩
  | 15 => ⟨S65536x1, .f32⟩
  | 16 => ⟨S65536x1, .f32⟩
  | 17 => ⟨S65536x1024, .f32⟩
  | 18 => ⟨S65536x1024, .f32⟩
  | 19 => ⟨S1x1024, .f32⟩
  | 20 => ⟨S65536x1024, .f32⟩
  | 21 => ⟨S65536x1024, .f32⟩
  | 22 => ⟨S1024x4224, .f32⟩
  | 23 => ⟨S65536x4224, .f32⟩
  | 24 => ⟨S65536x1664, .f32⟩
  | 25 => ⟨S32x2048x1664, .f32⟩
  | 26 => ⟨S1664, .f32⟩
  | 27 => ⟨S1664, .f32⟩
  | 28 => ⟨S32x2047x1664, .f32⟩
  | 29 => ⟨S_, .i32⟩
  | 30 => ⟨S_, .f32⟩
  | 31 => ⟨S32x2048x1664, .f32⟩
  | 32 => ⟨S32x2047x1664, .f32⟩
  | 33 => ⟨S_, .i32⟩
  | 34 => ⟨S_, .f32⟩
  | 35 => ⟨S32x2048x1664, .f32⟩
  | 36 => ⟨S32x2048x1664, .f32⟩
  | 37 => ⟨S1x1x1664, .f32⟩
  | 38 => ⟨S32x2048x1664, .f32⟩
  | 39 => ⟨S32x2048x1664, .f32⟩
  | 40 => ⟨S32x2048x1664, .f32⟩
  | 41 => ⟨S32x2048x1664, .f32⟩
  | 42 => ⟨S1x1x1664, .f32⟩
  | 43 => ⟨S32x2048x1664, .f32⟩
  | 44 => ⟨S32x2048x1664, .f32⟩
  | 45 => ⟨S32x2048x1664, .f32⟩
  | 46 => ⟨S65536x1664, .f32⟩
  | 47 => ⟨S65536x512, .f32⟩
  | 48 => ⟨S65536x512, .f32⟩
  | 49 => ⟨S65536x512, .f32⟩
  | 50 => ⟨S32x2048x8x64, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S2048, .f32⟩
  | 66 => ⟨S2048x1, .f32⟩
  | 67 => ⟨S1x32, .f32⟩
  | 68 => ⟨S2048x32, .f32⟩
  | 69 => ⟨S2048x32, .f32⟩
  | 70 => ⟨S2048x32, .f32⟩
  | 71 => ⟨S2048x32, .f32⟩
  | 72 => ⟨S1x2048x1x32, .f32⟩
  | 73 => ⟨S2048x32, .f32⟩
  | 74 => ⟨S1x2048x1x32, .f32⟩
  | 75 => ⟨S32x2048x8x32, .f32⟩
  | 76 => ⟨S32x2048x8x32, .f32⟩
  | 77 => ⟨S32x2048x8x32, .f32⟩
  | 78 => ⟨S32x2048x8x32, .f32⟩
  | 79 => ⟨S32x2048x8x32, .f32⟩
  | 80 => ⟨S32x2048x8x32, .f32⟩
  | 81 => ⟨S32x2048x8x32, .f32⟩
  | 82 => ⟨S32x2048x8x32, .f32⟩
  | 83 => ⟨S32x2048x8x32, .f32⟩
  | 84 => ⟨S32x2048x8x32, .f32⟩
  | 85 => ⟨S32x2048x8x32, .f32⟩
  | 86 => ⟨S32x2048x8x32, .f32⟩
  | 87 => ⟨S32x2048x8x64, .f32⟩
  | 88 => ⟨S_, .f32⟩
  | 89 => ⟨S32x2048x8x64, .f32⟩
  | 90 => ⟨S32x2048x8x64, .f32⟩
  | 91 => ⟨S32x2048x8x64, .bf16⟩
  | 92 => ⟨S65536x512, .f32⟩
  | 93 => ⟨S32x2048x8x64, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S2048, .f32⟩
  | 109 => ⟨S2048x1, .f32⟩
  | 110 => ⟨S1x32, .f32⟩
  | 111 => ⟨S2048x32, .f32⟩
  | 112 => ⟨S2048x32, .f32⟩
  | 113 => ⟨S2048x32, .f32⟩
  | 114 => ⟨S2048x32, .f32⟩
  | 115 => ⟨S1x2048x1x32, .f32⟩
  | 116 => ⟨S2048x32, .f32⟩
  | 117 => ⟨S1x2048x1x32, .f32⟩
  | 118 => ⟨S32x2048x8x32, .f32⟩
  | 119 => ⟨S32x2048x8x32, .f32⟩
  | 120 => ⟨S32x2048x8x32, .f32⟩
  | 121 => ⟨S32x2048x8x32, .f32⟩
  | 122 => ⟨S32x2048x8x32, .f32⟩
  | 123 => ⟨S32x2048x8x32, .f32⟩
  | 124 => ⟨S32x2048x8x32, .f32⟩
  | 125 => ⟨S32x2048x8x32, .f32⟩
  | 126 => ⟨S32x2048x8x32, .f32⟩
  | 127 => ⟨S32x2048x8x32, .f32⟩
  | _ => ⟨S65536x1024, .f32⟩

abbrev hbmTy0_1 (i : Nat) : BufTy := match i % 128 with
  | 0 => ⟨S32x2048x8x32, .f32⟩
  | 1 => ⟨S32x2048x8x32, .f32⟩
  | 2 => ⟨S32x2048x8x64, .f32⟩
  | 3 => ⟨S32x2048x8x64, .bf16⟩
  | 4 => ⟨S65536x512, .f32⟩
  | 5 => ⟨S65536x512, .bf16⟩
  | 6 => ⟨S32x512x4x512, .bf16⟩
  | 7 => ⟨S32x4x512x512, .bf16⟩
  | 8 => ⟨S32x128x16x512, .bf16⟩
  | 9 => ⟨S32x16x128x512, .bf16⟩
  | 10 => ⟨S32x2048x1x512, .bf16⟩
  | 11 => ⟨S32x1x2048x512, .bf16⟩
  | 12 => ⟨S32x512x4x512, .bf16⟩
  | 13 => ⟨S32x4x512x512, .bf16⟩
  | 14 => ⟨S32x128x16x512, .bf16⟩
  | 15 => ⟨S32x16x128x512, .bf16⟩
  | 16 => ⟨S32x2048x1x512, .bf16⟩
  | 17 => ⟨S32x1x2048x512, .bf16⟩
  | 18 => ⟨S32x512x4x512, .bf16⟩
  | 19 => ⟨S32x4x512x512, .bf16⟩
  | 20 => ⟨S32x128x16x512, .bf16⟩
  | 21 => ⟨S32x16x128x512, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_call1_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_7 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_8 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_v84 : Ref sig .tc := ⟨.hbm, 104, rfl⟩
abbrev main_cst_11 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩

abbrev nD : Nat := 1
abbrev τ : Topo := Topo.v7x

variable {F : FTy → Type} [FloatOps F]
-- ==== Proof.Gla.lean ====
module
public import proofs.«01_k».proof.Proof.Gen.KernelIdeal.Value

/-! The chunked recurrence of one block of 512 rows, written once for every chunk and every head.

A block is 8 chunks of 64 rows and 4 heads. `Blk` holds what a grid point reads; the functions below are what the kernel
computes from it for the chunk `c` and the head `h`, with the chunk's and the head's offsets as formulas. -/

@[expose] public section

noncomputable section

open Cert.KernelIdeal Cert.KernelIdeal.Gen Idealize.ShloMosaic

namespace Cert.Gla

variable {F : FTy → Type} [FloatOps F]

/-- A chunk's rows are a slice of the block. -/
theorem slRows (c : Fin 8) : S512x512.Slices ![64 * c.val, 0] S64x512 := by revert c; decide
/-- A row of a chunk is a slice of the block. -/
theorem slRow (c : Fin 8) (l : Fin 64) : S512x512.Slices ![64 * c.val + l.val, 0] S1x512 :=
  ⟨rfl, fun a => by fin_cases a <;> simp [S512x512, S1x512] <;> omega⟩
/-- A chunk's rows of one head are a slice of the block. -/
theorem slUnit (c : Fin 8) (h : Fin 4) : S512x512.Slices ![64 * c.val, 128 * h.val] S64x128 := by revert c h; decide
/-- One head's lanes are a slice of a row. -/
theorem slHead (h : Fin 4) : S1x512.Slices ![0, 128 * h.val] S1x128 := by revert h; decide
/-- A chunk's results of one head lie in the block of results. -/
theorem inbOut (c : Fin 8) (h : Fin 4) :
    ∀ a, (![0, 64 * c.val, 256 * h.val] : Fin 3 → Nat) a + S1x64x256.size a ≤ S1x512x1024.size a := by
  revert c h; decide
/-- One head's state lies in the buffer of states. -/
theorem inbSt (h : Fin 4) :
    ∀ a, (![h.val, 0, 0] : Fin 3 → Nat) a + S1x128x256.size a ≤ S4x128x256.size a := by
  revert h; decide

/-- What one grid point reads: the mask of the rows a row attends to, the gate's logarithm, the queries, the keys, the
values of each chunk and head, the state of each head, the last row of a chunk in the scan's order, and that order. -/
structure Blk (F : FTy → Type) where
  incl : IVec S64x64 1
  g : FVec F S512x512 .f32
  q : Vec F S1x512x512 .f32
  k : Vec F S1x512x512 .f32
  v : Fin 8 → Fin 4 → Vec F S1x64x256 .bf16
  s : Fin 4 → Vec F S1x128x256 .f32
  last : Fin 64
  ord : ℕ → Fin 8

/-- The gate's logarithm from the gate's inputs: the scaled log-sigmoid of a dense layer. -/
def gate (w : Vec F S1x128x512 .bf16) (b : Vec F S1x512 .f32) (x : Vec F S1x512x128 .f32) : FVec F S512x512 .f32 :=
  let z := addf (matmul dot_S512x128_S128x512_S512x512_1_0_0_1_n_n none
      (truncf .bf16 (shapeCast S512x128 x shapeCasts_S1x512x128_S512x128) bitsLt_bf16_f32)
      (shapeCast S128x512 w shapeCasts_S1x128x512_S128x512) (constant S512x512 .f32 0x00000000#32))
    (broadcastTo S512x512 (shapeCast S1x512 b shapeCasts_S1x512_S1x512) broadcasts_S1x512_S512x512)
  divf (subf (minimumf z (broadcast S512x512 (Scalar.ofBits .f32 0x00000000#32)))
      (log (addf (broadcast S512x512 (Scalar.ofBits .f32 0x3F800000#32))
        (exp (subf (broadcast S512x512 (Scalar.ofBits .f32 0x00000000#32)) (absf z))))))
    (broadcast S512x512 (Scalar.ofBits .f32 0x41800000#32))

/-- The rows `[64c, 64c+64)` of the gate's logarithm. -/
def gRows (B : Blk F) (c : Fin 8) : FVec F S64x512 .f32 :=
  extractStridedSlice S64x512 ![64 * c.val, 0] B.g (slRows c)

/-- The mask as zeros and ones. -/
def tri (B : Blk F) : FVec F S64x64 .bf16 :=
  truncf .bf16 (sitofp .f32 (extui 32 B.incl natLt_1_32)) bitsLt_bf16_f32

/-- The running sums of chunk `c`'s gate rows, through two products with the mask (a high and a low part). -/
def cumU (B : Blk F) (c : Fin 8) : FVec F S64x512 .f32 :=
  let hi := truncf .bf16 (gRows B c) bitsLt_bf16_f32
  addf (matmul dot_S64x64_S64x512_S64x512_1_0_0_1_n_n none (tri B) hi (constant S64x512 .f32 0x00000000#32))
    (matmul dot_S64x64_S64x512_S64x512_1_0_0_1_n_n none (tri B)
      (truncf .bf16 (subf (gRows B c) (extf .f32 hi bitsLt_bf16_f32)) bitsLt_bf16_f32)
      (constant S64x512 .f32 0x00000000#32))

/-- The running sums of all chunks. -/
def bcum (B : Blk F) : FVec F S512x512 .f32 :=
  concatenate S512x512 0 [⟨S64x512, cumU B 0⟩, ⟨S64x512, cumU B 1⟩, ⟨S64x512, cumU B 2⟩, ⟨S64x512, cumU B 3⟩,
      ⟨S64x512, cumU B 4⟩, ⟨S64x512, cumU B 5⟩, ⟨S64x512, cumU B 6⟩, ⟨S64x512, cumU B 7⟩]
    concatenates_S64x512_S64x512_S64x512_S64x512_S64x512_S64x512_S64x512_S64x512_S512x512_d0

/-- The sum over the whole of chunk `c`: the running sum at the chunk's last row. -/
def bLast (B : Blk F) (c : Fin 8) : FVec F S1x512 .f32 :=
  extractStridedSlice S1x512 ![64 * c.val + B.last.val, 0] (bcum B) (slRow c B.last)

/-- A chunk's whole sum, once for each of its rows. -/
def endU (B : Blk F) (c : Fin 8) : FVec F S64x512 .f32 :=
  broadcastTo S64x512 (shapeCast S1x512 (bLast B c) shapeCasts_S1x512_S1x512) broadcasts_S1x512_S64x512

/-- Each row's chunk's whole sum. -/
def bEnd (B : Blk F) : FVec F S512x512 .f32 :=
  concatenate S512x512 0 [⟨S64x512, endU B 0⟩, ⟨S64x512, endU B 1⟩, ⟨S64x512, endU B 2⟩, ⟨S64x512, endU B 3⟩,
      ⟨S64x512, endU B 4⟩, ⟨S64x512, endU B 5⟩, ⟨S64x512, endU B 6⟩, ⟨S64x512, endU B 7⟩]
    concatenates_S64x512_S64x512_S64x512_S64x512_S64x512_S64x512_S64x512_S64x512_S512x512_d0

/-- The scaled queries, decayed from the chunk's start. -/
def qDec (B : Blk F) : FVec F S512x512 .bf16 :=
  truncf .bf16 (mulf (mulf (shapeCast S512x512 B.q shapeCasts_S1x512x512_S512x512)
    (broadcast S512x512 (Scalar.ofBits .f32 0x3DB504F3#32))) (exp (bcum B))) bitsLt_bf16_f32

/-- The keys, their decay from the chunk's start undone. -/
def kDec (B : Blk F) : FVec F S512x512 .bf16 :=
  truncf .bf16 (mulf (shapeCast S512x512 B.k shapeCasts_S1x512x512_S512x512)
    (exp (subf (broadcast S512x512 (Scalar.ofBits .f32 0x00000000#32)) (bcum B)))) bitsLt_bf16_f32

/-- The keys, decayed to the chunk's end. -/
def kEnd (B : Blk F) : FVec F S512x512 .bf16 :=
  truncf .bf16 (mulf (shapeCast S512x512 B.k shapeCasts_S1x512x512_S512x512)
    (exp (subf (bEnd B) (bcum B)))) bitsLt_bf16_f32

/-- The values of chunk `c`, head `h`. -/
def vU (B : Blk F) (c : Fin 8) (h : Fin 4) : FVec F S64x256 .bf16 :=
  shapeCast S64x256 (B.v c h) shapeCasts_S1x64x256_S64x256

/-- The scores of chunk `c`, head `h`, masked. -/
def attU (B : Blk F) (c : Fin 8) (h : Fin 4) : FVec F S64x64 .bf16 :=
  truncf .bf16 (select B.incl
    (matmul dot_S64x128_S64x128_S64x64_1_1_0_0_n_n none
      (extractStridedSlice S64x128 ![64 * c.val, 128 * h.val] (qDec B) (slUnit c h))
      (extractStridedSlice S64x128 ![64 * c.val, 128 * h.val] (kDec B) (slUnit c h))
      (constant S64x64 .f32 0x00000000#32))
    (broadcast S64x64 (Scalar.ofBits .f32 0x00000000#32))) bitsLt_bf16_f32

/-- What the rows of chunk `c` get from the chunk itself. -/
def intraU (B : Blk F) (c : Fin 8) (h : Fin 4) : FVec F S64x256 .f32 :=
  matmul dot_S64x64_S64x256_S64x256_1_0_0_1_n_n none (attU B c h) (vU B c h) (constant S64x256 .f32 0x00000000#32)

/-- What chunk `c` adds to the state of head `h`. -/
def kvU (B : Blk F) (c : Fin 8) (h : Fin 4) : FVec F S128x256 .f32 :=
  matmul dot_S64x128_S64x256_S128x256_0_0_1_1_n_n none
    (extractStridedSlice S64x128 ![64 * c.val, 128 * h.val] (kEnd B) (slUnit c h)) (vU B c h)
    (constant S128x256 .f32 0x00000000#32)

/-- The decay of head `h`'s state over chunk `c`, as a column: the diagonal of the row spread over a square. -/
def dCol (B : Blk F) (c : Fin 8) (h : Fin 4) : FVec F S128x1 .f32 :=
  shapeCast S128x1 (multiReduction .add [1] S128
    (select (cmpi .eq (iota .tc S128x128 32 [0] iota_S128x128_d0_w32) (iota .tc S128x128 32 [1] iota_S128x128_d1_w32))
      (broadcastTo S128x128 (shapeCast S1x128
        (exp (extractStridedSlice S1x128 ![0, 128 * h.val] (bLast B c) (slHead h))) shapeCasts_S1x128_S1x128)
        broadcasts_S1x128_S128x128)
      (broadcast S128x128 (Scalar.ofBits .f32 0x00000000#32)))
    0x00000000#32 reduces_S128x128_S128 (.inl rfl) rfl) shapeCasts_S128_S128x1

/-- Head `h`'s state before the `n`th chunk of the scan. -/
def stU (B : Blk F) (h : Fin 4) : ℕ → FVec F S128x256 .f32
  | 0 => shapeCast S128x256 (B.s h) shapeCasts_S1x128x256_S128x256
  | n + 1 => addf (mulf (stU B h n) (broadcastTo S128x256 (dCol B (B.ord n) h) broadcasts_S128x1_S128x256))
      (kvU B (B.ord n) h)

/-- The scan's output for its `n`th chunk, head `h`. -/
def outU (B : Blk F) (n : ℕ) (h : Fin 4) : FVec F S64x256 .f32 :=
  addf (intraU B (B.ord n) h)
    (matmul dot_S64x128_S128x256_S64x256_1_0_0_1_n_n none
      (extractStridedSlice S64x128 ![64 * (B.ord n).val, 128 * h.val] (qDec B) (slUnit (B.ord n) h))
      (truncf .bf16 (stU B h n) bitsLt_bf16_f32) (constant S64x256 .f32 0x00000000#32))

end Cert.Gla
-- ==== Proof.Open.lean ====
module
public import proofs.«01_k».proof.Proof.Gla

/-! What one grid point of the forward scan leaves in its block of the output and in the state, as the generic chunks. -/

@[expose] public section

set_option maxHeartbeats 2000000
set_option maxRecDepth 100000

noncomputable section

open Cert.KernelIdeal Cert.KernelIdeal.Gen Idealize.ShloMosaic Idealize.ShloMosaic.TcCoe Idealize.SL.Sem

namespace Cert.Gla

variable {F : FTy → Type} [FloatOps F]

/-- The forward scan's mask: a row attends to itself and the rows before it. -/
def inclF : IVec S64x64 1 :=
  cmpi .sle (iota .tc S64x64 32 [1] iota_S64x64_d1_w32) (iota .tc S64x64 32 [0] iota_S64x64_d0_w32)

/-- The forward scan takes the chunks in order. -/
def ordF (n : ℕ) : Fin 8 := ⟨n % 8, Nat.mod_lt _ (by decide)⟩

/-- What a grid point of the forward scan reads, over the state `s`. -/
def blkF (t : Fin cfg0.N) (x0 : Vec F S1x512x512 .f32) (x1 : Vec F S1x512x512 .f32) (x2 : Vec F S1x512x1024 .bf16)
    (x3 : Vec F S1x512x128 .f32) (x4 : Vec F S2x128x512 .bf16) (x5 : Vec F S2x512 .f32)
    (s : Fin 4 → Vec F S1x128x256 .f32) : Blk F where
  incl := inclF
  g := gate
    (View.readAt (Elt F) (ms0_4 t).view (Rect.unit (s := S2x128x512) ![0, 0, 0] S1x128x512.size inb_S2x128x512_S1x128x512_0_0_0).toLoadRect ((hs0_4 t).unread x4))
    (View.readAt (Elt F) (ms0_5 t).view (Rect.unit (s := S2x512) ![0, 0] S1x512.size inb_S2x512_S1x512_0_0).toLoadRect ((hs0_5 t).unread x5))
    (View.readAt (Elt F) (ms0_3 t).view (Rect.unit ![0, 0, 0] S1x512x128.size inb_S1x512x128_S1x512x128_0_0_0).toLoadRect ((hs0_3 t).unread x3))
  q := View.readAt (Elt F) (ms0_0 t).view (Rect.unit ![0, 0, 0] S1x512x512.size inb_S1x512x512_S1x512x512_0_0_0).toLoadRect ((hs0_0 t).unread x0)
  k := View.readAt (Elt F) (ms0_1 t).view (Rect.unit ![0, 0, 0] S1x512x512.size inb_S1x512x512_S1x512x512_0_0_0).toLoadRect ((hs0_1 t).unread x1)
  v c h := View.readAt (Elt F) (ms0_2 t).view (Rect.unit (s := S1x512x1024) ![0, 64 * c.val, 256 * h.val] S1x64x256.size (inbOut c h)).toLoadRect ((hs0_2 t).unread x2)
  s := s
  last := 63
  ord := ordF

/-- The blocks a grid point writes: chunk by chunk, head by head, the last first. -/
def outPieces (B : Blk F) : List (View.Piece (Elt F) S1x512x1024 .f32) :=
  List.ofFn fun n : Fin 32 =>
    ⟨Rect.unit ![0, 64 * (B.ord (7 - n.val / 4)).val, 256 * (3 - n.val % 4)] S1x64x256.size (inbOut (B.ord (7 - n.val / 4)) ⟨3 - n.val % 4, by omega⟩),
      shapeCast S1x64x256 (outU B (7 - n.val / 4) ⟨3 - n.val % 4, by omega⟩) shapeCasts_S64x256_S1x64x256⟩

/-- The states a grid point writes, the last head first. -/
def stPieces (B : Blk F) : List (View.Piece (Elt F) S4x128x256 .f32) :=
  List.ofFn fun n : Fin 4 =>
    ⟨Rect.unit ![3 - n.val, 0, 0] S1x128x256.size (inbSt ⟨3 - n.val, by omega⟩),
      shapeCast S1x128x256 (stU B ⟨3 - n.val, by omega⟩ 8) shapeCasts_S128x256_S1x128x256⟩

/-- The state a grid point reads, where it carries one over. -/
def stRead (xs0 : Vec F S4x128x256 .f32) (h : Fin 4) : Vec F S1x128x256 .f32 :=
  View.readAt (Elt F) scM0_0.view (Rect.unit (s := S4x128x256) ![h.val, 0, 0] S1x128x256.size (inbSt h)).toLoadRect ((Memref.isWhole_whole _ : scM0_0.IsWhole).unread xs0)

/-- The store that clears the state at a sequence's first block. -/
def zeroPiece : List (View.Piece (Elt F) S4x128x256 .f32) :=
  [⟨Rect.unit ![0, 0, 0] S4x128x256.size inb_S4x128x256_S4x128x256_0_0_0, k0_pay4⟩]

/-- The state a grid point reads, where it has just cleared it. -/
def stZero (h : Fin 4) : Vec F S1x128x256 .f32 :=
  scM0_0.view.readCov (zeroPiece (F := F)) (Rect.unit (s := S4x128x256) ![h.val, 0, 0] S1x128x256.size (inbSt h)).toLoadRect

/-- A later block of a sequence: the output block, over the state it reads. -/
theorem out_B (c : Dev nD) (t : Fin cfg0.N) (h0 : ¬cond0_0 (grid0.coords t)) (x0 x1 x2 x3 x4 x5 xs0) :
    out0_B_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 x0 x1 x2 x3 x4 x5 xs0
      = View.canon (outPieces (blkF t x0 x1 x2 x3 x4 x5 (stRead xs0))) := by
  unfold out0_B_6
  rw [View.read_writes_eq_canon _ _ _ (cover0_B_6 c _ _ _ _ _ _ _ _ _ _ _ _ _ _ _ _ _ _ _ _ _ _ _ _ _)]
  unfold kernelRun0_B
  dsimp only
  sl_unfold_words
  exact congrArg View.canon (by sl_kernel_rfl)

/-- A later block of a sequence: the state it leaves, over the state it reads. -/
theorem st_B (c : Dev nD) (t : Fin cfg0.N) (h0 : ¬cond0_0 (grid0.coords t)) (x0 x1 x2 x3 x4 x5 xs0) :
    sout0_B_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 x0 x1 x2 x3 x4 x5 xs0
      = View.canon (stPieces (blkF t x0 x1 x2 x3 x4 x5 (stRead xs0))) := by
  unfold sout0_B_0
  rw [View.read_writes_eq_canon _ _ _ (scover0_B_0 c _ _ _ _ _ _ _ _ _ _ _ _ _ _ _ _ _ _ _ _ _ _ _ _ _)]
  unfold kernelRun0_B
  dsimp only
  sl_unfold_words
  exact congrArg View.canon (by sl_kernel_rfl)

/-- A sequence's first block: the output block, over the cleared state. -/
theorem out_A (c : Dev nD) (t : Fin cfg0.N) (h0 : cond0_0 (grid0.coords t)) (x0 x1 x2 x3 x4 x5) :
    out0_A_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 x0 x1 x2 x3 x4 x5
      = View.canon (outPieces (blkF t x0 x1 x2 x3 x4 x5 (stZero (F := F)))) := by
  unfold out0_A_6
  rw [View.read_writes_eq_canon _ _ _ (cover0_A_6 c _ _ _ _ _ _ _ _ _ _ _ _ _ _ _ _ _ _ _ _ _ _ _ _)]
  unfold kernelRun0_A
  dsimp only
  sl_unfold_words
  exact congrArg View.canon (by sl_kernel_rfl)

/-- A sequence's first block: the state it leaves, over the cleared state. -/
theorem st_A (c : Dev nD) (t : Fin cfg0.N) (h0 : cond0_0 (grid0.coords t)) (x0 x1 x2 x3 x4 x5) :
    sout0_A_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 x0 x1 x2 x3 x4 x5
      = View.canon (stPieces (blkF t x0 x1 x2 x3 x4 x5 (stZero (F := F))) ++ zeroPiece (F := F)) := by
  unfold sout0_A_0
  rw [View.read_writes_eq_canon _ _ _ (scover0_A_0 c _ _ _ _ _ _ _ _ _ _ _ _ _ _ _ _ _ _ _ _ _ _ _ _)]
  unfold kernelRun0_A
  dsimp only
  sl_unfold_words
  exact congrArg View.canon (by sl_kernel_rfl)

end Cert.Gla
-- ==== Proof.Math.lean ====
module
public import Idealize.ShloMosaic.Lib.Pointwise

/-! The recurrence of one chunk over the extended reals, in the order the rows are scanned.

A chunk has 64 rows; a row has 128 keys and 256 values. `cum` is the running sum of the gate's logarithm, `out` what a row
gives from the state before the chunk, `next` the state after it. -/

@[expose] public section

noncomputable section

open Idealize.ShloMosaic

namespace Cert.Gla

/-- One chunk of one head: the scaled queries, the keys, the gate's logarithms, the values, row by row. -/
structure Ch where
  q : Fin 64 → Fin 128 → EReal
  k : Fin 64 → Fin 128 → EReal
  g : Fin 64 → Fin 128 → EReal
  v : Fin 64 → Fin 256 → EReal

/-- A state: one number for each key and each value. -/
abbrev St := Fin 128 → Fin 256 → EReal

/-- The running sum of the gate's logarithms, the row itself included. -/
def Ch.cum (C : Ch) (t : Fin 64) (k : Fin 128) : EReal := ∑ s, if s ≤ t then C.g s k else 0

/-- The score of row `s` for row `t`, zero for a later row. -/
def Ch.att (C : Ch) (t s : Fin 64) : EReal :=
  if s ≤ t then ∑ k, (C.q t k * Ideal.exp (C.cum t k)) * (C.k s k * Ideal.exp (-(C.cum s k))) else 0

/-- What row `t` gives from the chunk itself. -/
def Ch.intra (C : Ch) (t : Fin 64) (d : Fin 256) : EReal := ∑ s, C.att t s * C.v s d

/-- What row `t` gives, from the state before the chunk. -/
def Ch.out (C : Ch) (S : St) (t : Fin 64) (d : Fin 256) : EReal :=
  C.intra t d + ∑ k, (C.q t k * Ideal.exp (C.cum t k)) * S k d

/-- The state after the chunk, from the state before it. -/
def Ch.next (C : Ch) (S : St) : St := fun k d =>
  S k d * Ideal.exp (C.cum 63 k) + ∑ s, (C.k s k * Ideal.exp (C.cum 63 k - C.cum s k)) * C.v s d

/-- The state before chunk `n`, from the state before chunk `0`. -/
def state (C : ℕ → Ch) (S : St) : ℕ → St
  | 0 => S
  | n + 1 => (C n).next (state C S n)

/-- The states of a later stretch of chunks go on from where the earlier stretch ended. -/
theorem state_add (C : ℕ → Ch) (S : St) (a b : ℕ) :
    state (fun n => C (a + n)) (state C S a) b = state C S (a + b) := by
  induction b with
  | zero => rfl
  | succ b ih => rw [state, ih]; rfl

/-- A state depends only on the chunks before it. -/
theorem state_congr {C C' : ℕ → Ch} {S S' : St} (n : ℕ) (hS : S = S') (h : ∀ j < n, C j = C' j) :
    state C S n = state C' S' n := by
  induction n with
  | zero => exact hS
  | succ n ih => rw [state, state, ih fun j hj => h j (Nat.lt_succ_of_lt hj), h n (Nat.lt_succ_self n)]

/-- The log-sigmoid, scaled by sixteen. -/
def logSig (x : EReal) : EReal :=
  Ideal.div (min x 0 - Ideal.log (1 + Ideal.exp (0 - max x (-x)))) (Ideal.ofBits FTy.f32 1098907648#32)

/-- The literal sixteen. -/
theorem lit16 : Ideal.ofBits FTy.f32 1098907648#32 = ((16 : ℝ) : EReal) := by
  simp [Ideal.ofBits, Ideal.ieee, -EReal.coe_mul]; norm_num

/-- The logarithm of one plus an exponential is a nonnegative real, off positive infinity. -/
theorem log_one_add_exp (y : EReal) (h : y ≠ ⊤) : ∃ L : ℝ, 0 ≤ L ∧ Ideal.log (1 + Ideal.exp y) = (L : EReal) := by
  induction y with
  | bot =>
    refine ⟨0, le_rfl, ?_⟩
    have e : Ideal.exp ⊥ = ((0 : ℝ) : EReal) := rfl
    rw [e, ← EReal.coe_one, ← EReal.coe_add]
    show (if ((1 : ℝ) + 0) ≤ 0 then (⊥ : EReal) else ((Real.log (1 + 0) : ℝ) : EReal)) = _
    rw [if_neg (by norm_num)]; norm_num
  | top => exact absurd rfl h
  | coe r =>
    have hp := Real.exp_pos r
    refine ⟨Real.log (1 + Real.exp r), Real.log_nonneg (by linarith), ?_⟩
    have e : Ideal.exp (r : EReal) = ((Real.exp r : ℝ) : EReal) := rfl
    rw [e, ← EReal.coe_one, ← EReal.coe_add]
    show (if ((1 : ℝ) + Real.exp r) ≤ 0 then (⊥ : EReal) else ((Real.log (1 + Real.exp r) : ℝ) : EReal)) = _
    rw [if_neg (by linarith)]

/-- The negated absolute value is not positive infinity. -/
theorem neg_abs_ne_top (x : EReal) : -(max x (-x)) ≠ ⊤ := by
  intro h
  rw [EReal.neg_eq_top_iff, max_eq_bot, EReal.neg_eq_bot_iff] at h
  rw [h.1] at h
  exact absurd h.2 (by simp)

/-- The other way to write the log-sigmoid: through the maximum with zero. -/
theorem logSig_alt (x : EReal) :
    Ideal.div (-(max (-x) 0 + Ideal.log (1 + Ideal.exp (-(max x (-x)))))) (Ideal.ofBits FTy.f32 1098907648#32) = logSig x := by
  unfold logSig
  obtain ⟨L, hL, e⟩ := log_one_add_exp _ (neg_abs_ne_top x)
  have h0 : (0 : EReal) - max x (-x) = -(max x (-x)) := by rw [sub_eq_add_neg, zero_add]
  have hm : min x 0 = -(max (-x) 0) := by
    rcases le_total x 0 with h | h
    · rw [min_eq_left h, max_eq_left (by simpa using EReal.neg_le_neg_iff.mpr h), neg_neg]
    · rw [min_eq_right h, max_eq_right (by simpa using EReal.neg_le_neg_iff.mpr h), neg_zero]
  rw [h0, e, hm, EReal.neg_add (.inr (EReal.coe_ne_top L)) (.inr (EReal.coe_ne_bot L))]

/-- A log-sigmoid is not positive infinity. -/
theorem logSig_ne_top (x : EReal) : logSig x ≠ ⊤ := by
  unfold logSig
  have h0 : (0 : EReal) - max x (-x) = -(max x (-x)) := by rw [sub_eq_add_neg, zero_add]
  obtain ⟨L, hL, e⟩ := log_one_add_exp _ (neg_abs_ne_top x)
  rw [h0, e, lit16, Ideal.div, if_neg (by norm_num), ← EReal.coe_inv]
  have hle : min x 0 - (L : EReal) ≤ 0 := by
    refine le_trans (EReal.sub_le_sub (min_le_right x 0) (EReal.coe_nonneg.mpr hL)) ?_
    simp
  intro h
  have hn : (min x 0 - (L : EReal)) * (((16 : ℝ)⁻¹ : ℝ) : EReal) ≤ 0 :=
    EReal.mul_nonpos_iff.mpr (.inr ⟨hle, EReal.coe_nonneg.mpr (by norm_num)⟩)
  rw [h] at hn
  exact absurd hn (by simp)

/-- What the recurrence is computed from: queries, keys, values, the gate's inputs, the gate's weights and biases. -/
structure Inp where
  Q : Fin 32 → Fin 2048 → Fin 512 → EReal
  K : Fin 32 → Fin 2048 → Fin 512 → EReal
  V : Fin 32 → Fin 2048 → Fin 1024 → EReal
  L : Fin 32 → Fin 2048 → Fin 128 → EReal
  U : Fin 16 → Fin 512 → EReal
  b : Fin 512 → EReal

/-- The factor of the queries. -/
def scale : EReal := Ideal.ofBits FTy.f32 1035273459#32

/-- Key `k` of head `h`, among all keys. -/
abbrev key (h : Fin 4) (k : Fin 128) : Fin 512 := ⟨128 * h.val + k.val, by omega⟩

/-- Value `d` of head `h`, among all values. -/
abbrev val (h : Fin 4) (d : Fin 256) : Fin 1024 := ⟨256 * h.val + d.val, by omega⟩

/-- Row `t` of the sequence's chunk `n`. -/
abbrev grow (n : ℕ) (t : Fin 64) : Fin 2048 := ⟨64 * (n % 32) + t.val, by omega⟩

/-- The gate's logarithm: the scaled log-sigmoid of a dense layer of sixteen inputs. -/
def Inp.gate (I : Inp) (s : Fin 32) (r : Fin 2048) (l : Fin 512) : EReal :=
  logSig (∑ j : Fin 16, I.L s r ⟨j.val, by omega⟩ * I.U j l + I.b l)

/-- Chunk `n` of sequence `s`, head `h`. -/
def Inp.ch (I : Inp) (s : Fin 32) (h : Fin 4) (n : ℕ) : Ch where
  q t k := I.Q s (grow n t) (key h k) * scale
  k t k := I.K s (grow n t) (key h k)
  g t k := I.gate s (grow n t) (key h k)
  v t d := I.V s (grow n t) (val h d)

/-- The state before chunk `n`: it starts at zero. -/
def Inp.st (I : Inp) (s : Fin 32) (h : Fin 4) (n : ℕ) : St := state (I.ch s h) (fun _ _ => 0) n

/-- The recurrence's output, at row `t` of chunk `n`. -/
def Inp.out (I : Inp) (s : Fin 32) (h : Fin 4) (n : ℕ) (t : Fin 64) (d : Fin 256) : EReal :=
  (I.ch s h n).out (I.st s h n) t d

/-- A sum of numbers and of their differences with themselves is the sum of the numbers, if none is positive infinity:
a real differs from itself by zero, and negative infinity stays what it is. -/
theorem sum_hilo (m : Fin 64 → Prop) [DecidablePred m] (g : Fin 64 → EReal) (hg : ∀ s, g s ≠ ⊤) :
    (∑ s, (if m s then (1 : EReal) else 0) * g s) + ∑ s, (if m s then (1 : EReal) else 0) * (g s - g s)
      = ∑ s, if m s then g s else 0 := by
  rw [← Finset.sum_add_distrib]
  refine Finset.sum_congr rfl fun s _ => ?_
  split
  · rw [one_mul, one_mul]
    have := hg s
    generalize g s = x at this ⊢
    induction x with
    | bot => rfl
    | top => exact absurd rfl this
    | coe r => rw [← EReal.coe_sub, sub_self, EReal.coe_zero, add_zero]
  · rw [zero_mul, zero_mul, add_zero]

end Cert.Gla

end
-- ==== Proof.KernelRead.lean ====
module
public import proofs.«01_k».proof.Proof.Gla
public import proofs.«01_k».proof.Proof.Math

/-! The block's functions read at an index: each is the chunk's recurrence, row by row, in the order of the scan. -/

@[expose] public section

noncomputable section

open Cert.KernelIdeal Cert.KernelIdeal.Gen Idealize.ShloMosaic

namespace Cert.Gla

/-- Row `t` of chunk `c`, among the block's rows. -/
abbrev row (c : Fin 8) (t : Fin 64) : Fin 512 := ⟨64 * c.val + t.val, by omega⟩

/-- Chunk `c`, head `h` of a block, its rows in the order `σ`. -/
def chB (B : Blk Ideal) (σ : Equiv.Perm (Fin 64)) (c : Fin 8) (h : Fin 4) : Ch where
  q t k := B.q (ix3 0 (row c (σ t)) (key h k)) * scale
  k t k := B.k (ix3 0 (row c (σ t)) (key h k))
  g t k := B.g (ix2 (row c (σ t)) (key h k))
  v t d := B.v c h (ix3 0 (σ t) d)

/-- The block is scanned in the order `σ`: the mask and the last row say so, and no gate is positive infinity. -/
structure Ordered (B : Blk Ideal) (σ : Equiv.Perm (Fin 64)) : Prop where
  incl : ∀ t s, B.incl (ix2 (σ t) (σ s)) = if s ≤ t then 1#1 else 0#1
  last : B.last = σ 63
  g : ∀ i, B.g i ≠ ⊤

/-- The mask as a number. -/
theorem tri_apply (B : Blk Ideal) (i : S64x64.Idx) : tri B i = if B.incl i = 1#1 then (1 : EReal) else 0 := by
  pointwise [tri]
  generalize B.incl i = b
  show (((BitVec.setWidth 32 b).toInt : ℝ) : EReal) = _
  rcases BitVec.eq_zero_or_eq_one b with rfl | rfl <;> simp

/-- The running sums at a row of chunk `c`. -/
theorem bcum_apply (B : Blk Ideal) (c : Fin 8) (t : Fin 64) (l : Fin 512) :
    bcum B (ix2 (row c t) l) = cumU B c (ix2 t l) := by
  refine concatenate_ofFn_apply (t := S512x512) (s₁ := S64x512) 0 (fun c : Fin 8 => cumU B c) _ rfl 64 rfl
    (ix2 (row c t) l) c ?_ (ix2 t l) ?_ ?_
  · show (64 * c.val + t.val) / 64 = c.val
    omega
  · show t.val = (64 * c.val + t.val) % 64
    omega
  · intro b hb
    fin_cases b
    · exact absurd rfl hb
    · rfl

/-- The whole sums at a row of chunk `c`. -/
theorem bEnd_apply (B : Blk Ideal) (c : Fin 8) (t : Fin 64) (l : Fin 512) :
    bEnd B (ix2 (row c t) l) = bcum B (ix2 (row c B.last) l) := by
  refine (concatenate_ofFn_apply (t := S512x512) (s₁ := S64x512) 0 (fun c : Fin 8 => endU B c) _ rfl 64 rfl
    (ix2 (row c t) l) c ?_ (ix2 t l) ?_ ?_).trans ?_
  · show (64 * c.val + t.val) / 64 = c.val
    omega
  · show t.val = (64 * c.val + t.val) % 64
    omega
  · intro b hb
    fin_cases b
    · exact absurd rfl hb
    · rfl
  · pointwise [endU, bLast]

variable {B : Blk Ideal} {σ : Equiv.Perm (Fin 64)}

/-- The running sums are the chunk's, in the scan's order. -/
theorem bcum_eq (O : Ordered B σ) (c : Fin 8) (h : Fin 4) (t : Fin 64) (k : Fin 128) :
    bcum B (ix2 (row c (σ t)) (key h k)) = (chB B σ c h).cum t k := by
  rw [bcum_apply]
  pointwise [cumU, gRows]
  simp only [tri_apply]
  rw [sum_hilo (fun x => B.incl (ix2 (σ t) x) = 1#1) _ fun s => O.g _, ← Equiv.sum_comp σ]
  refine Finset.sum_congr rfl fun s _ => ?_
  rw [O.incl]
  by_cases hs : s ≤ t <;> simp [hs, chB]

/-- The kernel's running sum at a chunk's last row is the sum over the chunk. -/
theorem bLast_eq (O : Ordered B σ) (c : Fin 8) (h : Fin 4) (k : Fin 128) :
    bLast B c (ix2 0 (key h k)) = (chB B σ c h).cum 63 k := by
  rw [← bcum_eq O, ← O.last]
  pointwise [bLast]

/-- The kernel's decayed queries. -/
theorem qDec_eq (O : Ordered B σ) (c : Fin 8) (h : Fin 4) (t : Fin 64) (k : Fin 128) :
    qDec B (ix2 (row c (σ t)) (key h k)) = (chB B σ c h).q t k * Ideal.exp ((chB B σ c h).cum t k) := by
  rw [← bcum_eq O]
  pointwise [qDec]
  rfl

/-- The kernel's keys with the decay undone. -/
theorem kDec_eq (O : Ordered B σ) (c : Fin 8) (h : Fin 4) (t : Fin 64) (k : Fin 128) :
    kDec B (ix2 (row c (σ t)) (key h k)) = (chB B σ c h).k t k * Ideal.exp (-((chB B σ c h).cum t k)) := by
  rw [← bcum_eq O]
  pointwise [kDec]
  rw [sub_eq_add_neg, zero_add]
  rfl

/-- The kernel's keys decayed to the chunk's end. -/
theorem kEnd_eq (O : Ordered B σ) (c : Fin 8) (h : Fin 4) (t : Fin 64) (k : Fin 128) :
    kEnd B (ix2 (row c (σ t)) (key h k))
      = (chB B σ c h).k t k * Ideal.exp ((chB B σ c h).cum 63 k - (chB B σ c h).cum t k) := by
  rw [← bcum_eq O, ← bcum_eq O]
  pointwise [kEnd]
  rw [bEnd_apply, O.last]
  rfl

/-- The kernel's values of one head. -/
theorem vU_eq (c : Fin 8) (h : Fin 4) (t : Fin 64) (d : Fin 256) :
    vU B c h (ix2 (σ t) d) = (chB B σ c h).v t d := by
  pointwise [vU]
  rfl

/-- The kernel's weights inside a chunk. -/
theorem attU_eq (O : Ordered B σ) (c : Fin 8) (h : Fin 4) (t s : Fin 64) :
    attU B c h (ix2 (σ t) (σ s)) = (chB B σ c h).att t s := by
  pointwise [attU]
  rw [O.incl, Ch.att]
  by_cases hs : s ≤ t
  · rw [if_pos hs, if_pos hs]
    show (∑ x : Fin 128, qDec B (ix2 (row c (σ t)) (key h x)) * kDec B (ix2 (row c (σ s)) (key h x)) : EReal) = _
    exact Finset.sum_congr rfl fun k _ => congrArg₂ _ (qDec_eq O c h t k) (kDec_eq O c h s k)
  · rw [if_neg hs, if_neg hs]
    rfl

/-- The kernel's output of a chunk alone. -/
theorem intraU_eq (O : Ordered B σ) (c : Fin 8) (h : Fin 4) (t : Fin 64) (d : Fin 256) :
    intraU B c h (ix2 (σ t) d) = (chB B σ c h).intra t d := by
  pointwise [intraU]
  rw [← Equiv.sum_comp σ]
  exact Finset.sum_congr rfl fun s _ => congrArg₂ _ (attU_eq O c h t s) (vU_eq c h s d)

/-- What a chunk adds to the kernel's state. -/
theorem kvU_eq (O : Ordered B σ) (c : Fin 8) (h : Fin 4) (k : Fin 128) (d : Fin 256) :
    kvU B c h (ix2 k d)
      = ∑ s, ((chB B σ c h).k s k * Ideal.exp ((chB B σ c h).cum 63 k - (chB B σ c h).cum s k)) * (chB B σ c h).v s d := by
  pointwise [kvU]
  rw [← Equiv.sum_comp σ]
  exact Finset.sum_congr rfl fun s _ => congrArg₂ _ (kEnd_eq O c h s k) (vU_eq c h s d)

/-- The decay of the kernel's state over a chunk. -/
theorem dCol_eq (O : Ordered B σ) (c : Fin 8) (h : Fin 4) (k : Fin 128) :
    dCol B c h (ix2 k 0) = Ideal.exp ((chB B σ c h).cum 63 k) := by
  pointwise [dCol]
  rw [Finset.sum_eq_single k]
  · rw [← bLast_eq O]
    simp [IntOp.cmpi, Scalar.select]
  · intro b _ hb
    have : (BitVec.ofNat 32 k.val == BitVec.ofNat 32 b.val) = false := by
      rw [beq_eq_false_iff_ne]
      intro e
      apply hb
      have := congrArg BitVec.toNat e
      simp at this
      omega
    simp [IntOp.cmpi, Scalar.select, this]
  · simp

/-- The states before a block's chunks, from the states before the block. -/
def stB (B : Blk Ideal) (σ : Equiv.Perm (Fin 64)) (h : Fin 4) (n : ℕ) : St :=
  state (fun n => chB B σ (B.ord n) h) (fun k d => B.s h (ix3 0 k d)) n

/-- The kernel's state after a number of chunks. -/
theorem stU_eq (O : Ordered B σ) (h : Fin 4) (n : ℕ) (k : Fin 128) (d : Fin 256) :
    stU B h n (ix2 k d) = stB B σ h n k d := by
  induction n with
  | zero =>
    pointwise [stU]
    rfl
  | succ n ih =>
    pointwise [stU]
    exact congrArg₂ _ (congrArg₂ _ ih (dCol_eq O _ h k)) (kvU_eq O _ h k d)

/-- The kernel's output of a chunk. -/
theorem outU_eq (O : Ordered B σ) (n : ℕ) (h : Fin 4) (t : Fin 64) (d : Fin 256) :
    outU B n h (ix2 (σ t) d) = (chB B σ (B.ord n) h).out (stB B σ h n) t d := by
  pointwise [outU]
  refine congrArg₂ _ (intraU_eq O _ h t d) (Finset.sum_congr rfl fun k _ => ?_)
  exact congrArg₂ _ (qDec_eq O _ h t k) (stU_eq O h n k d)

/-- The gate at an index: the scaled log-sigmoid of a dense layer. -/
theorem gate_apply (w : Vec Ideal S1x128x512 .bf16) (b : Vec Ideal S1x512 .f32) (x : Vec Ideal S1x512x128 .f32)
    (r l : Fin 512) :
    gate w b x (ix2 r l) = logSig (∑ j : Fin 128, x (ix3 0 r j) * w (ix3 0 j l) + b (ix2 0 l)) := by
  pointwise [gate]
  rfl

end Cert.Gla

end
-- ==== Proof.KernelValue.lean ====
module
public import proofs.«01_k».proof.Proof.Open
public import proofs.«01_k».proof.Proof.KernelRead
public import Idealize.ShloMosaic.Lib.Pipeline.ValueKit.Point
public import Idealize.ShloMosaic.Lib.Claim
public import Idealize.ShloMosaic.Lib.StableHlo.ReadAt
public import Idealize.ShloMosaic.Lib.WholeRead

/-! The forward scan's result at an index. -/

@[expose] public section

set_option maxRecDepth 100000
set_option maxHeartbeats 2000000

noncomputable section

open Cert.KernelIdeal Cert.KernelIdeal.Gen Idealize.ShloMosaic Idealize.ShloMosaic.TcCoe Idealize.SL.Sem

namespace Cert.Gla

variable (m : (ℓ : Loc nD τ sig) → Buf (Elt Ideal) ℓ) (c : Dev nD)

/-- The sequence a grid point works on. -/
abbrev seq (t : Fin cfg0.N) : Fin 32 := ⟨t.val / 4, by have := lt_of_lt_of_eq t.isLt (show cfg0.N = 128 from N_0); omega⟩
/-- A row of a grid point's block, in the sequence. -/
abbrev pos (t : Fin cfg0.N) (r : Fin 512) : Fin 2048 := ⟨t.val % 4 * 512 + r.val, by omega⟩

/-! The input blocks. -/

/-- Where block 0 lies at a point. -/
theorem idx0 : ∀ t : Fin cfg0.N, win0_0.index t = ![t.val / 4, t.val % 4, 0] :=
  (by decide +kernel : ∀ t : Fin grid0.N, win0_0.index t = ![t.val / 4, t.val % 4, 0])
/-- Where block 1 lies at a point. -/
theorem idx1 : ∀ t : Fin cfg0.N, win0_1.index t = ![t.val / 4, t.val % 4, 0] :=
  (by decide +kernel : ∀ t : Fin grid0.N, win0_1.index t = ![t.val / 4, t.val % 4, 0])
/-- Where block 2 lies at a point. -/
theorem idx2 : ∀ t : Fin cfg0.N, win0_2.index t = ![t.val / 4, t.val % 4, 0] :=
  (by decide +kernel : ∀ t : Fin grid0.N, win0_2.index t = ![t.val / 4, t.val % 4, 0])
/-- Where block 3 lies at a point. -/
theorem idx3 : ∀ t : Fin cfg0.N, win0_3.index t = ![t.val / 4, t.val % 4, 0] :=
  (by decide +kernel : ∀ t : Fin grid0.N, win0_3.index t = ![t.val / 4, t.val % 4, 0])
/-- Where block 4 lies at a point. -/
theorem idx4 : ∀ t : Fin cfg0.N, win0_4.index t = ![0, 0, 0] :=
  (by decide +kernel : ∀ t : Fin grid0.N, win0_4.index t = ![0, 0, 0])
/-- Where block 5 lies at a point. -/
theorem idx5 : ∀ t : Fin cfg0.N, win0_5.index t = ![0, 0] :=
  (by decide +kernel : ∀ t : Fin grid0.N, win0_5.index t = ![0, 0])

/-- Block 0 at an index, read off the memory before the launch. -/
theorem read0 (t : Fin cfg0.N) (r l : Fin 512) :
    iblk m c 0 t (ix3 0 r l) = m ((c : Thread nD τ).loc main_arg0) (ix3 (seq t) (pos t r) l) := by
  blk_point [iblk, idx0 t]
/-- Block 1 at an index, read off the memory before the launch. -/
theorem read1 (t : Fin cfg0.N) (r l : Fin 512) :
    iblk m c 1 t (ix3 0 r l) = m ((c : Thread nD τ).loc main_arg1) (ix3 (seq t) (pos t r) l) := by
  blk_point [iblk, idx1 t]
/-- Block 2 at an index, read off the memory before the launch. -/
theorem read2 (t : Fin cfg0.N) (r : Fin 512) (l : Fin 1024) :
    iblk m c 2 t (ix3 0 r l) = m ((c : Thread nD τ).loc main_arg2) (ix3 (seq t) (pos t r) l) := by
  blk_point [iblk, idx2 t]
/-- Block 3 at an index, read off the memory before the launch. -/
theorem read3 (t : Fin cfg0.N) (r : Fin 512) (l : Fin 128) :
    iblk m c 3 t (ix3 0 r l) = m ((c : Thread nD τ).loc main_arg3) (ix3 (seq t) (pos t r) l) := by
  blk_point [iblk, idx3 t]

/-- The gate's weights, padded with zeros to 128 rows before the launch. -/
theorem weights (r : Fin 128) (l : Fin 512) : V m c main_v3 (ix3 0 r l)
    = if h : r.val < 16 then m ((c : Thread nD τ).loc main_arg4) (ix4 0 0 ⟨r.val, h⟩ l) else (0 : EReal) := by
  unfold V
  after_reads_at
  by_cases h : r.val < 16
  · rw [dif_pos h, dif_pos h]
  · rw [dif_neg h, dif_neg h]
    show (((0#32 : BitVec 32).toInt : ℝ) : EReal) = 0
    simp

/-- The gate's biases, reshaped before the launch. -/
theorem biases (l : Fin 512) : V m c main_v2 (ix2 0 l) = m ((c : Thread nD τ).loc main_arg5) (ix3 0 0 l) := by
  unfold V
  after_reads_at

/-- Block 4 at an index, read off the memory before the launch. -/
theorem read4 (t : Fin cfg0.N) (r : Fin 128) (l : Fin 512) :
    iblk m c 4 t (ix3 0 r l) = V m c main_v3 (ix3 0 r l) := by
  unfold iblk
  blk_simp
  refine congrArg (V m c main_v3) ?_
  blk_ext! [idx4 t]

/-- Block 5 at an index, read off the memory before the launch. -/
theorem read5 (t : Fin cfg0.N) (l : Fin 512) :
    iblk m c 5 t (ix2 0 l) = V m c main_v2 (ix2 0 l) := by
  unfold iblk
  blk_simp
  refine congrArg (V m c main_v2) ?_
  blk_ext! [idx5 t]

/-- What the scan is computed from, read off the launch's memory. -/
def inp : Inp where
  Q s r l := m ((c : Thread nD τ).loc main_arg0) (ix3 s r l)
  K s r l := m ((c : Thread nD τ).loc main_arg1) (ix3 s r l)
  V s r l := m ((c : Thread nD τ).loc main_arg2) (ix3 s r l)
  L s r l := m ((c : Thread nD τ).loc main_arg3) (ix3 s r l)
  U j l := m ((c : Thread nD τ).loc main_arg4) (ix4 0 0 j l)
  b l := m ((c : Thread nD τ).loc main_arg5) (ix3 0 0 l)

/-- The block a grid point works on, over the states `s`. -/
abbrev blkAt (t : Fin cfg0.N) (s : Fin 4 → Vec Ideal S1x128x256 .f32) : Blk Ideal :=
  blkF t (iblk m c 0 t) (iblk m c 1 t) (iblk m c 2 t) (iblk m c 3 t) (iblk m c 4 t) (iblk m c 5 t) s

variable (t : Fin cfg0.N) (s : Fin 4 → Vec Ideal S1x128x256 .f32)

/-- The block's queries. -/
theorem blk_q (r l : Fin 512) : (blkAt m c t s).q (ix3 0 r l) = (inp m c).Q (seq t) (pos t r) l := by
  refine Eq.trans ?_ (read0 m c t r l)
  show View.readAt _ _ _ ((hs0_0 t).unread _) _ = _
  rw [Memref.IsWhole.readAt_unread (hs0_0 t)]
  pointwise

/-- The block's keys. -/
theorem blk_k (r l : Fin 512) : (blkAt m c t s).k (ix3 0 r l) = (inp m c).K (seq t) (pos t r) l := by
  refine Eq.trans ?_ (read1 m c t r l)
  show View.readAt _ _ _ ((hs0_1 t).unread _) _ = _
  rw [Memref.IsWhole.readAt_unread (hs0_1 t)]
  pointwise

/-- The block's values. -/
theorem blk_v (n : Fin 8) (h : Fin 4) (r : Fin 64) (d : Fin 256) :
    (blkAt m c t s).v n h (ix3 0 r d) = (inp m c).V (seq t) (pos t (row n r)) (val h d) := by
  refine Eq.trans ?_ (read2 m c t (row n r) (val h d))
  show View.readAt _ _ _ ((hs0_2 t).unread _) _ = _
  rw [Memref.IsWhole.readAt_unread (hs0_2 t)]
  pointwise

/-- The block's gates. -/
theorem blk_g (r l : Fin 512) : (blkAt m c t s).g (ix2 r l) = (inp m c).gate (seq t) (pos t r) l := by
  refine (gate_apply _ _ _ r l).trans ?_
  unfold Inp.gate
  refine congrArg logSig ?_
  refine congrArg₂ _ ?_ ?_
  · rw [← Finset.sum_subset (Finset.subset_univ (Finset.univ.map (Fin.castLEEmb (show 16 ≤ 128 by decide))))]
    · rw [Finset.sum_map]
      refine Finset.sum_congr rfl fun j _ => congrArg₂ _ ?_ ?_
      · rw [Memref.IsWhole.readAt_unread (hs0_3 t)]
        refine Eq.trans ?_ (read3 m c t r ⟨j.val, by omega⟩)
        pointwise
        rfl
      · rw [Memref.IsWhole.readAt_unread (hs0_4 t)]
        refine Eq.trans ?_ ((read4 m c t ⟨j.val, by omega⟩ l).trans ((weights m c _ l).trans (dif_pos j.isLt)))
        pointwise
        rfl
    · intro j _ hj
      have hj' : ¬ j.val < 16 := fun h => hj (Finset.mem_map.mpr ⟨⟨j.val, h⟩, Finset.mem_univ _, rfl⟩)
      refine Eq.trans (congrArg _ ?_) (mul_zero _)
      rw [Memref.IsWhole.readAt_unread (hs0_4 t)]
      refine Eq.trans ?_ ((read4 m c t _ l).trans ((weights m c _ l).trans (dif_neg hj')))
      pointwise
  · rw [Memref.IsWhole.readAt_unread (hs0_5 t)]
    refine Eq.trans ?_ ((read5 m c t l).trans (biases m c l))
    pointwise

/-- The block is scanned in order. -/
theorem ordered : Ordered (blkAt m c t s) (Equiv.refl _) where
  incl x y := by
    show inclF (ix2 x y) = _
    revert x y
    decide +kernel
  last := rfl
  g i := by
    idx_vars i
    rw [blk_g]
    exact logSig_ne_top _

/-- Chunk `n` of the block is chunk `8 j + n` of its sequence, for the sequence's block `j`. -/
theorem chunk (n : ℕ) (hn : n < 8) (h : Fin 4) :
    chB (blkAt m c t s) (Equiv.refl _) (ordF n) h = (inp m c).ch (seq t) h (8 * (t.val % 4) + n) := by
  have e : ∀ r : Fin 64, pos t (row (ordF n) r) = grow (8 * (t.val % 4) + n) r := by
    intro r
    apply Fin.ext
    show t.val % 4 * 512 + (64 * (n % 8) + r.val) = 64 * ((8 * (t.val % 4) + n) % 32) + r.val
    omega
  unfold chB Inp.ch
  congr 1
  · funext r k
    rw [← e]; exact congrArg (· * scale) (blk_q m c t s _ _)
  · funext r k
    rw [← e]; exact blk_k m c t s _ _
  · funext r k
    rw [← e]; exact blk_g m c t s _ _
  · funext r d
    rw [← e]; exact blk_v m c t s _ _ _ _

end Cert.Gla

end
-- ==== Proof.KernelOut.lean ====
module
public import proofs.«01_k».proof.Proof.KernelValue
public import Idealize.ShloMosaic.Lib.Pipeline.CanonAppend
public import Idealize.ShloMosaic.Lib.Pipeline.FrameBody

/-! The forward scan's fold over its grid: the state each point leaves, and the output. -/

@[expose] public section

set_option maxRecDepth 100000
set_option maxHeartbeats 2000000

noncomputable section

open Cert.KernelIdeal Cert.KernelIdeal.Gen Idealize.ShloMosaic Idealize.ShloMosaic.TcCoe Idealize.SL.Sem

namespace Cert.Gla

/-- What a point's stores leave in the state, whatever was stored before them. -/
theorem canon_st (B : Blk Ideal) (L : List (View.Piece (Elt Ideal) S4x128x256 .f32)) (h : Fin 4) (k : Fin 128) (d : Fin 256) :
    View.canon (stPieces B ++ L) (ix3 h k d) = stU B h 8 (ix2 k d) := by
  refine View.canon_append_of_pieces (fun y : S4x128x256.Idx => stU B (y 0) 8 (ix2 (y 1) (y 2))) L (stPieces B) ?_ (ix3 h k d) ?_
  · intro p hp
    obtain ⟨n, rfl⟩ := List.mem_ofFn.mp hp
    intro x
    idx_vars x
    pointwise
    have e : (Rect.unit (s := S4x128x256) ![3 - n.val, 0, 0] S1x128x256.size (inbSt ⟨3 - n.val, by omega⟩)).emb (ix3 x0 x1 x2)
        = ix3 (⟨3 - n.val, by omega⟩ : Fin 4) x1 x2 := by
      show (Rect.unit (s := S4x128x256) ![3 - n.val, 0, 0] S1x128x256.size (inbSt ⟨3 - n.val, by omega⟩)).idx (ix3 x0 x1 x2) = _
      pointwise
    rw [e]
    rfl
  · refine ⟨_, List.mem_ofFn.mpr ⟨⟨3 - h.val, by omega⟩, rfl⟩, ?_⟩
    rw [Rect.mem_set_unit]
    intro a
    have := h.isLt
    have := k.isLt
    have := d.isLt
    fin_cases a
    · show 3 - (3 - h.val) ≤ h.val ∧ h.val < 3 - (3 - h.val) + 1
      omega
    · show 0 ≤ k.val ∧ k.val < 0 + 128
      omega
    · show 0 ≤ d.val ∧ d.val < 0 + 256
      omega

/-- What a point's stores leave in the output block. -/
theorem canon_out (B : Blk Ideal) (hB : ∀ a < 8, ∀ b < 8, B.ord a = B.ord b → a = b) (n : ℕ) (hn : n < 8) (h : Fin 4)
    (r : Fin 64) (d : Fin 256) :
    View.canon (outPieces B) (ix3 0 (row (B.ord n) r) (val h d)) = outU B n h (ix2 r d) := by
  have hr := r.isLt
  have hd := d.isLt
  have hh := h.isLt
  refine View.canon_ofFn_unit_eq_of_forall _ _ _ _ _ _ ?_ ?_
  · refine ⟨⟨4 * (7 - n) + (3 - h.val), by omega⟩, ?_⟩
    have e1 : 7 - (4 * (7 - n) + (3 - h.val)) / 4 = n := by omega
    have e2 : 3 - (4 * (7 - n) + (3 - h.val)) % 4 = h.val := by omega
    intro a
    dsimp only
    rw [e1, e2]
    fin_cases a
    · show 0 ≤ 0 ∧ 0 < 0 + 1
      omega
    · show 64 * (B.ord n).val ≤ 64 * (B.ord n).val + r.val ∧ 64 * (B.ord n).val + r.val < 64 * (B.ord n).val + 64
      omega
    · show 256 * h.val ≤ 256 * h.val + d.val ∧ 256 * h.val + d.val < 256 * h.val + 256
      omega
  · intro j x hx
    idx_vars x
    have hx1 := x1.isLt
    have hx2 := x2.isLt
    have h1 : 64 * (B.ord n).val + r.val = 64 * (B.ord (7 - j.val / 4)).val + x1.val := hx 1
    have h2 : 256 * h.val + d.val = 256 * (3 - j.val % 4) + x2.val := hx 2
    have e1 : n = 7 - j.val / 4 := hB _ hn _ (by omega) (Fin.ext (by omega))
    have e2 : h = ⟨3 - j.val % 4, by omega⟩ := Fin.ext (by show h.val = 3 - j.val % 4; omega)
    have e3 : x1 = r := Fin.ext (by rw [← e1] at h1; omega)
    have e4 : x2 = d := Fin.ext (by omega)
    pointwise
    rw [e3, e4, e2, ← e1]

/-- The cleared state is zero. -/
theorem stZero_apply (h : Fin 4) (k : Fin 128) (d : Fin 256) : stZero (F := Ideal) h (ix3 0 k d) = (0 : EReal) := by
  unfold stZero
  rw [View.readCov_eq_canon']
  show View.canon (zeroPiece (F := Ideal)) _ = _
  unfold zeroPiece
  rw [View.canon_unit_zero (by funext a; fin_cases a <;> rfl)]
  pointwise [k0_pay4]

/-- The carried state, head by head. -/
theorem stRead_apply (x : Vec Ideal S4x128x256 .f32) (h : Fin 4) (k : Fin 128) (d : Fin 256) :
    stRead x h (ix3 0 k d) = x (ix3 h k d) := by
  unfold stRead
  rw [Memref.IsWhole.readAt_unread]
  pointwise

/-- The order of the chunks visits no chunk twice. -/
theorem ordF_inj : ∀ a < 8, ∀ b < 8, ordF a = ordF b → a = b := by decide

variable (m : (ℓ : Loc nD τ sig) → Buf (Elt Ideal) ℓ) (c : Dev nD)

/-- The states before the block's chunks, from the sequence's state before the block. -/
theorem blk_state (t : Fin cfg0.N) (s : Fin 4 → Vec Ideal S1x128x256 .f32) (h : Fin 4)
    (hs : ∀ k d, s h (ix3 0 k d) = (inp m c).st (seq t) h (8 * (t.val % 4)) k d) (n : ℕ) (hn : n ≤ 8) :
    stB (blkAt m c t s) (Equiv.refl _) h n = (inp m c).st (seq t) h (8 * (t.val % 4) + n) := by
  unfold stB Inp.st
  rw [← state_add]
  exact state_congr n (funext fun k => funext fun d => hs k d) fun j hj => chunk m c t s j (by omega) h

/-- A point's output, from the sequence's state before its block. -/
theorem blk_out (t : Fin cfg0.N) (s : Fin 4 → Vec Ideal S1x128x256 .f32) (h : Fin 4)
    (hs : ∀ k d, s h (ix3 0 k d) = (inp m c).st (seq t) h (8 * (t.val % 4)) k d) (n : ℕ) (hn : n < 8) (r : Fin 64) (d : Fin 256) :
    View.canon (outPieces (blkAt m c t s)) (ix3 0 (row (ordF n) r) (val h d))
      = (inp m c).out (seq t) h (8 * (t.val % 4) + n) r d := by
  refine (canon_out _ ordF_inj n hn h r d).trans ((outU_eq (ordered m c t s) n h r d).trans ?_)
  rw [blk_state m c t s h hs n hn.le]
  exact congrArg (fun C => Ch.out C _ r d) (chunk m c t s n hn h)

/-- A point's state, from the sequence's state before its block. -/
theorem blk_next (t : Fin cfg0.N) (s : Fin 4 → Vec Ideal S1x128x256 .f32) (h : Fin 4)
    (hs : ∀ k d, s h (ix3 0 k d) = (inp m c).st (seq t) h (8 * (t.val % 4)) k d) (k : Fin 128) (d : Fin 256) (L) :
    View.canon (stPieces (blkAt m c t s) ++ L) (ix3 h k d) = (inp m c).st (seq t) h (8 * (t.val % 4) + 8) k d := by
  rw [canon_st, stU_eq (ordered m c t s), blk_state m c t s h hs 8 le_rfl]

/-- The state a point reads. -/
def before (n : ℕ) (hn : n < cfg0.N) : Fin 4 → Vec Ideal S1x128x256 .f32 :=
  if n % 4 = 0 then stZero else stRead (outsAt0 m c (n - 1) (lt_of_le_of_lt (Nat.sub_le _ _) hn)).2

/-- A point's output and state, over the state it reads. -/
theorem outs_eq (t : Fin cfg0.N) : ∃ L,
    outsAt0 m c t.val t.isLt = (View.canon (outPieces (blkAt m c t (before m c t.val t.isLt))),
      View.canon (stPieces (blkAt m c t (before m c t.val t.isLt)) ++ L)) := by
  by_cases h0 : t.val % 4 = 0
  · refine ⟨zeroPiece, ?_⟩
    rw [outsAt0_A m c t h0, out_A, st_A, before, if_pos h0]
  · refine ⟨[], ?_⟩
    rw [outsAt0_B m c t h0, out_B, st_B, before, if_neg h0, List.append_nil]

/-- The state a point reads is the sequence's, before the point's block. -/
theorem before_eq : ∀ (n : ℕ) (hn : n < cfg0.N) (h : Fin 4) (k : Fin 128) (d : Fin 256),
    before m c n hn h (ix3 0 k d) = (inp m c).st (seq ⟨n, hn⟩) h (8 * (n % 4)) k d := by
  intro n
  induction n with
  | zero =>
    intro hn h k d
    exact stZero_apply h k d
  | succ n ih =>
    intro hn h k d
    have hn' : n < cfg0.N := Nat.lt_of_succ_lt hn
    unfold before
    by_cases h0 : (n + 1) % 4 = 0
    · rw [if_pos h0, h0]
      exact stZero_apply h k d
    · rw [if_neg h0, stRead_apply]
      obtain ⟨L, hL⟩ := outs_eq m c ⟨n, hn'⟩
      refine (congrFun (congrArg Prod.snd hL) _).trans ?_
      refine (blk_next m c ⟨n, hn'⟩ _ h (fun k d => ih hn' h k d) k d L).trans ?_
      have e1 : seq ⟨n, hn'⟩ = seq ⟨n + 1, hn⟩ := Fin.ext (by show n / 4 = (n + 1) / 4; omega)
      have e2 : 8 * (n % 4) + 8 = 8 * ((n + 1) % 4) := by omega
      show (inp m c).st (seq ⟨n, hn'⟩) h (8 * (n % 4) + 8) k d = _
      rw [e1, e2]

/-- THE FORWARD SCAN'S RESULT at an index: the recurrence's output. -/
theorem result (s : Fin 32) (h : Fin 4) (n : Fin 32) (r : Fin 64) (d : Fin 256) :
    Value.G6 m c (ix3 s (grow n.val r) (val h d)) = (inp m c).out s h n.val r d := by
  have hN : cfg0.N = 128 := N_0
  have hp : Value.pt6Of (ix3 s (grow n.val r) (val h d)) = 4 * s.val + n.val / 8 := by
    show 4 * (s.val / 1 - 0) + 1 * ((64 * (n.val % 32) + r.val) / 512 - 0) + 1 * ((256 * h.val + d.val) / 1024 - 0) = _
    omega
  have ht : 4 * s.val + n.val / 8 < cfg0.N := by omega
  have hl : Value.loc6Of (ix3 s (grow n.val r) (val h d)) = ix3 0 (row (ordF (n.val % 8)) r) (val h d) := by
    funext a
    fin_cases a
    · exact Fin.ext (by show s.val % 1 = 0; omega)
    · exact Fin.ext (by show (64 * (n.val % 32) + r.val) % 512 = 64 * (n.val % 8 % 8) + r.val; omega)
    · exact Fin.ext (by show (256 * h.val + d.val) % 1024 = 256 * h.val + d.val; omega)
  unfold Value.G6
  rw [dif_pos (by rw [hp]; exact ht), ← Value.outsAt0_sweep m c _ (by rw [hp]; exact ht), hl]
  obtain ⟨L, hL⟩ := outs_eq m c ⟨_, ht⟩
  have key : ∀ (p : ℕ) (hp' : p < cfg0.N), p = 4 * s.val + n.val / 8 →
      (outsAt0 m c p hp').1 (ix3 0 (row (ordF (n.val % 8)) r) (val h d)) = (inp m c).out s h n.val r d := by
    rintro p hp' rfl
    refine (congrFun (congrArg Prod.fst hL) _).trans ?_
    refine (blk_out m c ⟨_, ht⟩ _ h (fun k d => before_eq m c _ ht h k d) _ (Nat.mod_lt _ (by decide)) r d).trans ?_
    have e1 : seq ⟨4 * s.val + n.val / 8, ht⟩ = s := Fin.ext (by show (4 * s.val + n.val / 8) / 4 = s.val; omega)
    have e2 : 8 * ((4 * s.val + n.val / 8) % 4) + n.val % 8 = n.val := by omega
    show (inp m c).out (seq ⟨4 * s.val + n.val / 8, ht⟩) h (8 * ((4 * s.val + n.val / 8) % 4) + n.val % 8) r d = _
    rw [e1, e2]
  exact key _ _ hp

end Cert.Gla

end
-- ==== Proof.RefRun.lean ====
module
public import proofs.«01_k».proof.Proof.Gen.ReferenceIdeal.Run
public import proofs.«01_k».proof.Proof.Gen.ReferenceIdeal.Step

/-! The reference's loop: each trip is one step of its carried state. -/

@[expose] public section

set_option maxRecDepth 65536
set_option maxHeartbeats 2000000

noncomputable section

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

namespace Cert.GlaRef

variable {F : FTy → Type} [FloatOps F]

/-- The carried state a valuation holds. -/
def stateOf (V : Valuation τ sig (Elt F)) : State F where
  main_v55_6 := V (Proc.devRef .tc main_v55_6)
  main_v55_7 := V (Proc.devRef .tc main_v55_7)
  main_v55_0 := V (Proc.devRef .tc main_v55_0)
  main_v55_1 := V (Proc.devRef .tc main_v55_1)
  main_v55_2 := V (Proc.devRef .tc main_v55_2)
  main_v55_3 := V (Proc.devRef .tc main_v55_3)
  main_v55_4 := V (Proc.devRef .tc main_v55_4)

/-- The valuation counts `j` trips done. -/
def Counts (V : Valuation τ sig (Elt F)) (j : ℕ) : Prop :=
  V (Proc.devRef .tc main_v55_5) = constantI S_ 32 (BitVec.ofNat 32 j)

/-- What one step of the scan does to the state. -/
theorem trip_state (V : Valuation τ sig (Elt F)) (j : ℕ) (h : Counts V j) :
    Value.step_main_v55_6 V = b35 j (stateOf V) := by
  unfold Value.step_main_v55_6
  rw [h]
  rfl

/-- What one step of the scan does to the outputs. -/
theorem trip_out (V : Valuation τ sig (Elt F)) (j : ℕ) (h : Counts V j) :
    Value.step_main_v55_7 V = b41 j (stateOf V) := by
  unfold Value.step_main_v55_7
  rw [h]
  rfl

/-- One trip is one step. -/
theorem trip (V : Valuation τ sig (Elt F)) (j : ℕ) (h : Counts V j) : stateOf (STEP V) = step j (stateOf V) := by
  unfold step stateOf
  rw [STEP_main_v55_0, STEP_main_v55_1, STEP_main_v55_2, STEP_main_v55_3, STEP_main_v55_4, STEP_main_v55_6, STEP_main_v55_7,
    trip_state V j h, trip_out V j h]
  rfl

/-- One trip counts one more. -/
theorem counts_succ (V : Valuation τ sig (Elt F)) (j : ℕ) (h : Counts V j) : Counts (STEP V) (j + 1) := by
  unfold Counts
  rw [STEP_main_v55_5]
  unfold step_main_v55_5
  rw [h]
  funext i
  show BitVec.ofNat 32 j + 1#32 = BitVec.ofNat 32 (j + 1)
  simp only [BitVec.ofNat_add]

variable (m : (ℓ : Loc nD τ sig) → Buf (Elt F) ℓ) (c : Dev nD)

/-- The state before the loop, of the memory the run starts from. -/
abbrev start : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The operations before the loop leave the start state. -/
theorem entry_state : stateOf (entryContents preI m c) = start m c := by
  unfold stateOf
  simp only [entryContents, afterL_cons, afterL_nil]
  after_reads_simp
  rfl

/-- The operations before the loop count no trip. -/
theorem entry_counts : Counts (entryContents preI m c) 0 := by
  unfold Counts
  simp only [entryContents, afterL_cons, afterL_nil]
  after_reads_simp
  rfl

/-- The states of the loop, one after the other. -/
def states : ℕ → State F
  | 0 => start m c
  | n + 1 => step n (states n)

/-- The scan's state after a number of steps. -/
theorem iterate : ∀ k, Counts (STEP^[k] (entryContents preI m c)) k ∧ stateOf (STEP^[k] (entryContents preI m c)) = states m c k
  | 0 => ⟨entry_counts m c, entry_state m c⟩
  | k + 1 => by
    obtain ⟨h, e⟩ := iterate k
    rw [Function.iterate_succ_apply']
    refine ⟨counts_succ _ k h, ?_⟩
    rw [trip _ k h, e]
    rfl

/-- The reference's result is read off the state after 32 trips. -/
theorem out_states : out_main_v58 (STEP^[32] (entryContents preI m c)) = R_main_v58 (states m c 32) := by
  rw [← (iterate m c 32).2]
  generalize STEP^[32] (entryContents preI m c) = V
  unfold out_main_v58 R_main_v58
  rfl

end Cert.GlaRef

end
-- ==== Proof.Cumsum.lean ====
module
public import Idealize.ShloMosaic.Lib.Pointwise

/-! The running sum along the fourth axis of a five-axis array. -/

@[expose] public section

noncomputable section

open Idealize.ShloMosaic

namespace Cert.GlaRef

/-- Adding up a list from `v` on. -/
theorem foldl_sum {n : ℕ} (f : Fin n → EReal) (v : EReal) :
    (List.finRange n).foldl (fun r i => r + f i) v = v + ∑ i, f i := by
  rw [Fin.sum_univ_def]
  generalize List.finRange n = L
  induction L generalizing v with
  | nil => simp
  | cons a L ih => rw [List.foldl_cons, ih, List.map_cons, List.sum_cons, add_assoc]

/-- The window: 64 places along the fourth axis. -/
abbrev Win : Shape := ⟨5, ![1, 1, 1, 64, 1]⟩

/-- A place of the window is a number below 64. -/
def place : Fin 64 ≃ Win.Idx where
  toFun s := ix5 (0 : Fin 1) (0 : Fin 1) (0 : Fin 1) s (0 : Fin 1)
  invFun w := w 3
  left_inv s := rfl
  right_inv w := by
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
    | ⟨4, _⟩ => exact (Subsingleton.elim (α := Fin 1) _ _)

/-- Moving the window's places so that they name the row read. -/
theorem sum_shift (t : Fin 64) (y : Fin 64 → EReal) :
    (∑ w : Fin 64, if h : 63 ≤ t.val + w.val then y ⟨t.val + w.val - 63, by omega⟩ else 0) = ∑ s, if s ≤ t then y s else 0 := by
  rw [← Equiv.sum_comp (Equiv.addRight (63 - t : Fin 64))]
  refine Finset.sum_congr rfl fun s _ => ?_
  have hv : ((Equiv.addRight (63 - t : Fin 64)) s).val = (s.val + (63 - t.val)) % 64 := by
    have ht : t ≤ (63 : Fin 64) := Fin.le_last t
    rw [Equiv.coe_addRight, Fin.val_add, Fin.sub_val_of_le ht]
    rfl
  by_cases hs : s ≤ t
  · have hs' : s.val ≤ t.val := hs
    have e : ((Equiv.addRight (63 - t : Fin 64)) s).val = s.val + (63 - t.val) := by rw [hv]; omega
    rw [dif_pos (by omega), if_pos hs]
    congr 1
    apply Fin.ext
    show t.val + _ - 63 = s.val
    omega
  · have hs' : t.val < s.val := not_le.mp hs
    have e : ((Equiv.addRight (63 - t : Fin 64)) s).val = s.val - t.val - 1 := by rw [hv]; omega
    rw [dif_neg (by omega), if_neg hs]

/-- The running sum: row `t` of the result adds the rows up to `t`. -/
theorem cumsum_apply {A B C D : ℕ} (x : FVec Ideal ⟨5, ![A, B, C, 64, D]⟩ .f32) (init : FVec Ideal ⟨0, ![]⟩ .f32)
    (h : Shape.ReduceWindows ⟨5, ![A, B, C, 64, D]⟩ ![1, 1, 1, 64, 1] ![1, 1, 1, 1, 1] ![0, 0, 0, 63, 0] ![0, 0, 0, 0, 0]
      ⟨5, ![A, B, C, 64, D]⟩) (h0 : ∀ i, init i = 0) (hu : 0 < Shape.numel ⟨0, ![]⟩)
    (n : Fin A) (s : Fin B) (p : Fin C) (t : Fin 64) (k : Fin D) :
    Host.reduceWindowAdd ![1, 1, 1, 64, 1] ![1, 1, 1, 1, 1] ![0, 0, 0, 63, 0] ![0, 0, 0, 0, 0] x init h hu (ix5 n s p t k)
      = ∑ u : Fin 64, if u ≤ t then x (ix5 n s p u k) else 0 := by
  have e : Host.reduceWindowAdd ![1, 1, 1, 64, 1] ![1, 1, 1, 1, 1] ![0, 0, 0, 63, 0] ![0, 0, 0, 0, 0] x init h hu (ix5 n s p t k)
      = Host.reduceWindow (u := ⟨0, ![]⟩) (fun a b : EReal => a + b) ![1, 1, 1, 64, 1] ![1, 1, 1, 1, 1] ![0, 0, 0, 63, 0] ![0, 0, 0, 0, 0]
          x (fun _ => init (Shape.Idx.first hu)) h hu (ix5 n s p t k) := rfl
  rw [e]
  unfold Host.reduceWindow
  dsimp only
  rw [foldl_sum, h0, zero_add]
  refine Eq.trans ?_ (sum_shift t fun u => x (ix5 n s p u k))
  rw [← Equiv.sum_comp (Shape.rowMajor Win)]
  simp only [Equiv.symm_apply_apply]
  rw [← Equiv.sum_comp place]
  refine Finset.sum_congr rfl fun w _ => ?_
  by_cases hw : 63 ≤ t.val + w.val
  · rw [dif_pos hw, dif_pos]
    · congr 1
      funext a
      apply Fin.ext
      match a with
      | ⟨0, _⟩ => show n.val * 1 + 0 - 0 = n.val; omega
      | ⟨1, _⟩ => show s.val * 1 + 0 - 0 = s.val; omega
      | ⟨2, _⟩ => show p.val * 1 + 0 - 0 = p.val; omega
      | ⟨3, _⟩ => show t.val * 1 + w.val - 63 = t.val + w.val - 63; omega
      | ⟨4, _⟩ => show k.val * 1 + 0 - 0 = k.val; omega
    · intro a
      match a with
      | ⟨0, _⟩ => show 0 ≤ n.val * 1 + 0 ∧ n.val * 1 + 0 - 0 < A; omega
      | ⟨1, _⟩ => show 0 ≤ s.val * 1 + 0 ∧ s.val * 1 + 0 - 0 < B; omega
      | ⟨2, _⟩ => show 0 ≤ p.val * 1 + 0 ∧ p.val * 1 + 0 - 0 < C; omega
      | ⟨3, _⟩ => show 63 ≤ t.val * 1 + w.val ∧ t.val * 1 + w.val - 63 < 64; omega
      | ⟨4, _⟩ => show 0 ≤ k.val * 1 + 0 ∧ k.val * 1 + 0 - 0 < D; omega
  · rw [dif_neg hw, dif_neg]
    intro hin
    have h3 : 63 ≤ t.val * 1 + w.val := (hin 3).1
    omega

end Cert.GlaRef

end
-- ==== Proof.RefRead.lean ====
module
public import proofs.«01_k».proof.Proof.Gen.ReferenceIdeal.Step
public import proofs.«01_k».proof.Proof.Math
public import proofs.«01_k».proof.Proof.Cumsum

/-! What the reference computes before its loop, entry by entry. -/

@[expose] public section

set_option maxRecDepth 100000
set_option maxHeartbeats 2000000

noncomputable section

open Cert.ReferenceIdeal Cert.ReferenceIdeal.Step Idealize.ShloMosaic

namespace Cert.GlaRef

open Cert.Gla

variable (a0 : FVec Ideal S32x2048x512 .f32) (a1 : FVec Ideal S32x2048x512 .f32) (a2 : FVec Ideal S32x2048x1024 .bf16)
  (a3 : FVec Ideal S32x2048x128 .f32) (a4 : FVec Ideal S1x2x16x512 .f32) (a5 : FVec Ideal S1x2x512 .f32)

/-- The arrays the recurrence reads. -/
abbrev inpOf : Inp where
  Q s r l := a0 (ix3 s r l)
  K s r l := a1 (ix3 s r l)
  V s r l := a2 (ix3 s r l)
  L s r l := a3 (ix3 s r l)
  U j l := a4 (ix4 0 0 j l)
  b l := a5 (ix3 0 0 l)

/-- A row of a chunk, as the reshape counts it. -/
theorem grow_eq (n : Fin 32) (t : Fin 64) (h : n.val * 64 + t.val < 2048) : (⟨n.val * 64 + t.val, h⟩ : Fin 2048) = grow n.val t := by
  apply Fin.ext
  show n.val * 64 + t.val = 64 * (n.val % 32) + t.val
  omega

/-- A key lane's column. -/
theorem key_eq (p : Fin 4) (k : Fin 128) (h : p.val * 128 + k.val < 512) : (⟨p.val * 128 + k.val, h⟩ : Fin 512) = key p k := by
  apply Fin.ext
  show p.val * 128 + k.val = 128 * p.val + k.val
  omega

/-- A value lane's column. -/
theorem val_eq (p : Fin 4) (d : Fin 256) (h : p.val * 256 + d.val < 1024) : (⟨p.val * 256 + d.val, h⟩ : Fin 1024) = val p d := by
  apply Fin.ext
  show p.val * 256 + d.val = 256 * p.val + d.val
  omega

/-- The gate's logarithms. -/
theorem gate_at (s : Fin 32) (r : Fin 2048) (l : Fin 512) :
    A_main_v25 (F := Ideal) a0 a1 a2 a3 a4 a5 (ix3 s r l) = (inpOf a0 a1 a2 a3 a4 a5).gate s r l := by
  pointwise [A_main_v25, A_main_v23, A_main_v22, A_main_v21, A_main_v20, A_main_v19, A_main_v18, A_main_v17, A_main_v15, K_main_v24, K_main_v16, K_main_cst_0, K_main_cst_1,
    A_main_v14]
  pointwise [A_main_v9, A_main_v13, A_main_v12, A_main_v11, A_main_v10, A_main_v8, A_main_v7, A_main_v6]
  exact logSig_alt _

/-- The reference's queries at an index. -/
theorem q_at (s n : Fin 32) (p : Fin 4) (t : Fin 64) (k : Fin 128) :
    A_main_v28 (F := Ideal) a0 a1 a2 a3 a4 a5 (ix5 n s p t k) = ((inpOf a0 a1 a2 a3 a4 a5).ch s p n.val).q t k := by
  pointwise [A_main_v28, A_main_v27, A_main_v2, A_main_v0, K_main_v1, K_main_cst]
  rw [grow_eq, key_eq]
  rfl

/-- The reference's keys at an index. -/
theorem k_at (s n : Fin 32) (p : Fin 4) (t : Fin 64) (k : Fin 128) :
    A_main_v30 (F := Ideal) a0 a1 a2 a3 a4 a5 (ix5 n s p t k) = ((inpOf a0 a1 a2 a3 a4 a5).ch s p n.val).k t k := by
  pointwise [A_main_v30, A_main_v29, A_main_v3]
  rw [grow_eq, key_eq]
  rfl

/-- The reference's values at an index. -/
theorem v_at (s n : Fin 32) (p : Fin 4) (t : Fin 64) (d : Fin 256) :
    A_main_v32 (F := Ideal) a0 a1 a2 a3 a4 a5 (ix5 n s p t d) = ((inpOf a0 a1 a2 a3 a4 a5).ch s p n.val).v t d := by
  pointwise [A_main_v32, A_main_v31, A_main_v5]
  rw [grow_eq, val_eq]
  rfl

/-- The reference's gates at an index. -/
theorem g_at (s n : Fin 32) (p : Fin 4) (t : Fin 64) (k : Fin 128) :
    A_main_v34 (F := Ideal) a0 a1 a2 a3 a4 a5 (ix5 n s p t k) = ((inpOf a0 a1 a2 a3 a4 a5).ch s p n.val).g t k := by
  pointwise [A_main_v34, A_main_v33, A_main_v26]
  rw [grow_eq, key_eq]
  exact gate_at a0 a1 a2 a3 a4 a5 _ _ _

/-- The running sum of the gate's logarithms. -/
theorem cum_at (s n : Fin 32) (p : Fin 4) (t : Fin 64) (k : Fin 128) :
    A_main_v35 (F := Ideal) a0 a1 a2 a3 a4 a5 (ix5 n s p t k) = ((inpOf a0 a1 a2 a3 a4 a5).ch s p n.val).cum t k := by
  unfold A_main_v35
  refine (cumsum_apply _ _ _ (fun i => ?_) _ n s p t k).trans ?_
  · pointwise [K_main_call0_call0_v0, K_main_call0_call0_cst]
    try simp [Ideal.ofBits, Ideal.ieee]
  · exact Finset.sum_congr rfl fun u _ => by rw [g_at]

/-- The reference's decayed queries at an index. -/
theorem qdec_at (s n : Fin 32) (p : Fin 4) (t : Fin 64) (k : Fin 128) :
    A_main_v37 (F := Ideal) a0 a1 a2 a3 a4 a5 (ix5 n s p t k)
      = ((inpOf a0 a1 a2 a3 a4 a5).ch s p n.val).q t k * Ideal.exp (((inpOf a0 a1 a2 a3 a4 a5).ch s p n.val).cum t k) := by
  pointwise [A_main_v37, A_main_v36]
  rw [q_at, cum_at]

/-- The reference's keys with the decay undone, at an index. -/
theorem kdec_at (s n : Fin 32) (p : Fin 4) (t : Fin 64) (k : Fin 128) :
    A_main_v40 (F := Ideal) a0 a1 a2 a3 a4 a5 (ix5 n s p t k)
      = ((inpOf a0 a1 a2 a3 a4 a5).ch s p n.val).k t k * Ideal.exp (-((inpOf a0 a1 a2 a3 a4 a5).ch s p n.val).cum t k) := by
  pointwise [A_main_v40, A_main_v39, A_main_v38]
  rw [k_at, cum_at]

/-- The reference's keys decayed to the chunk's end, at an index. -/
theorem kend_at (s n : Fin 32) (p : Fin 4) (t : Fin 64) (k : Fin 128) :
    A_main_v50 (F := Ideal) a0 a1 a2 a3 a4 a5 (ix5 n s p t k)
      = ((inpOf a0 a1 a2 a3 a4 a5).ch s p n.val).k t k
        * Ideal.exp (((inpOf a0 a1 a2 a3 a4 a5).ch s p n.val).cum 63 k - ((inpOf a0 a1 a2 a3 a4 a5).ch s p n.val).cum t k) := by
  pointwise [A_main_v50, A_main_v49, A_main_v48, A_main_v47, A_main_v46]
  rw [k_at, cum_at, cum_at]

/-- The reference's decay over a chunk, at an index. -/
theorem decay_at (s n : Fin 32) (p : Fin 4) (k : Fin 128) :
    A_main_v52 (F := Ideal) a0 a1 a2 a3 a4 a5 (ix4 n s p k) = Ideal.exp (((inpOf a0 a1 a2 a3 a4 a5).ch s p n.val).cum 63 k) := by
  pointwise [A_main_v52, A_main_v51, A_main_v46]
  rw [cum_at]

/-- The mask: a row sees the rows up to itself. -/
theorem mask_at (t u : Fin 64) : K_main_v42 (F := Ideal) (ix2 t u) = if u ≤ t then 1#1 else 0#1 := by
  revert t u
  decide +kernel

/-- The scores. -/
theorem att_at (s n : Fin 32) (p : Fin 4) (t u : Fin 64) :
    A_main_v44 (F := Ideal) a0 a1 a2 a3 a4 a5 (ix5 n s p t u) = ((inpOf a0 a1 a2 a3 a4 a5).ch s p n.val).att t u := by
  pointwise [A_main_v44, K_main_call2_v1, K_main_call2_v2, K_main_call2_v0, K_main_cst_2]
  pointwise [A_main_v43]
  rw [mask_at]
  unfold Ch.att
  simp only [qdec_at, kdec_at]
  by_cases h : u ≤ t
  · rw [if_pos h, if_pos h]
    rfl
  · rw [if_neg h, if_neg h]
    show Ideal.ofBits FTy.f32 0#32 = 0
    simp [Ideal.ofBits, Ideal.ieee]

/-- What a chunk gives from itself. -/
theorem intra_at (s n : Fin 32) (p : Fin 4) (t : Fin 64) (d : Fin 256) :
    A_main_v45 (F := Ideal) a0 a1 a2 a3 a4 a5 (ix5 n s p t d) = ((inpOf a0 a1 a2 a3 a4 a5).ch s p n.val).intra t d := by
  pointwise [A_main_v45]
  unfold Ch.intra
  simp only [att_at, v_at]

end Cert.GlaRef

end
-- ==== Proof.RefOut.lean ====
module
public import proofs.«01_k».proof.Proof.RefRun
public import proofs.«01_k».proof.Proof.RefRead

/-! The reference's loop over the chunks: the state it carries and the rows it writes. -/

@[expose] public section

set_option maxRecDepth 100000
set_option maxHeartbeats 2000000

noncomputable section

open Cert.ReferenceIdeal Cert.ReferenceIdeal.Step Idealize.ShloMosaic Idealize.ShloMosaic.TcCoe Idealize.SL.Sem

namespace Cert.GlaRef

open Cert.Gla

/-- The slice of chunk `j` out of a five-axis array, entry by entry. -/
theorem slice5 {N A B C D : ℕ} (x : Shape.Idx ⟨5, ![N, A, B, C, D]⟩ → EReal) (st : Fin 5 → Int)
    (h : Shape.Slices ⟨5, ![N, A, B, C, D]⟩ (fun _ => 0) ⟨5, ![1, A, B, C, D]⟩) (j : ℕ) (hj : j < N)
    (h0 : st 0 = (j : ℤ)) (h1 : st 1 = 0) (h2 : st 2 = 0) (h3 : st 3 = 0) (h4 : st 4 = 0)
    (s : Fin A) (p : Fin B) (t : Fin C) (k : Fin D) :
    Host.dynamicSlice ⟨5, ![1, A, B, C, D]⟩ x st h (ix5 0 s p t k) = x (ix5 ⟨j, hj⟩ s p t k) := by
  rw [Host.dynamicSlice_apply]
  have c0 := Host.clampedStart_of_le (s := ⟨5, ![N, A, B, C, D]⟩) (t := ⟨5, ![1, A, B, C, D]⟩) h.1 st (0 : Fin 5) j h0 hj
  have c1 := Host.clampedStart_of_le (s := ⟨5, ![N, A, B, C, D]⟩) (t := ⟨5, ![1, A, B, C, D]⟩) h.1 st (1 : Fin 5) 0 h1 (le_of_eq (Nat.zero_add _))
  have c2 := Host.clampedStart_of_le (s := ⟨5, ![N, A, B, C, D]⟩) (t := ⟨5, ![1, A, B, C, D]⟩) h.1 st (2 : Fin 5) 0 h2 (le_of_eq (Nat.zero_add _))
  have c3 := Host.clampedStart_of_le (s := ⟨5, ![N, A, B, C, D]⟩) (t := ⟨5, ![1, A, B, C, D]⟩) h.1 st (3 : Fin 5) 0 h3 (le_of_eq (Nat.zero_add _))
  have c4 := Host.clampedStart_of_le (s := ⟨5, ![N, A, B, C, D]⟩) (t := ⟨5, ![1, A, B, C, D]⟩) h.1 st (4 : Fin 5) 0 h4 (le_of_eq (Nat.zero_add _))
  refine congrArg x ?_
  rw [Shape.Idx.norm_def]
  funext a
  apply Fin.ext
  match a with
  | ⟨0, _⟩ => exact (congrArg (· + 0) c0)
  | ⟨1, _⟩ => exact (congrArg (· + s.val) c1).trans (Nat.zero_add _)
  | ⟨2, _⟩ => exact (congrArg (· + p.val) c2).trans (Nat.zero_add _)
  | ⟨3, _⟩ => exact (congrArg (· + t.val) c3).trans (Nat.zero_add _)
  | ⟨4, _⟩ => exact (congrArg (· + k.val) c4).trans (Nat.zero_add _)

/-- The slice of chunk `j` out of a four-axis array, entry by entry. -/
theorem slice4 {N A B C : ℕ} (x : Shape.Idx ⟨4, ![N, A, B, C]⟩ → EReal) (st : Fin 4 → Int)
    (h : Shape.Slices ⟨4, ![N, A, B, C]⟩ (fun _ => 0) ⟨4, ![1, A, B, C]⟩) (j : ℕ) (hj : j < N)
    (h0 : st 0 = (j : ℤ)) (h1 : st 1 = 0) (h2 : st 2 = 0) (h3 : st 3 = 0)
    (s : Fin A) (p : Fin B) (t : Fin C) :
    Host.dynamicSlice ⟨4, ![1, A, B, C]⟩ x st h (ix4 0 s p t) = x (ix4 ⟨j, hj⟩ s p t) := by
  rw [Host.dynamicSlice_apply]
  have c0 := Host.clampedStart_of_le (s := ⟨4, ![N, A, B, C]⟩) (t := ⟨4, ![1, A, B, C]⟩) h.1 st (0 : Fin 4) j h0 hj
  have c1 := Host.clampedStart_of_le (s := ⟨4, ![N, A, B, C]⟩) (t := ⟨4, ![1, A, B, C]⟩) h.1 st (1 : Fin 4) 0 h1 (le_of_eq (Nat.zero_add _))
  have c2 := Host.clampedStart_of_le (s := ⟨4, ![N, A, B, C]⟩) (t := ⟨4, ![1, A, B, C]⟩) h.1 st (2 : Fin 4) 0 h2 (le_of_eq (Nat.zero_add _))
  have c3 := Host.clampedStart_of_le (s := ⟨4, ![N, A, B, C]⟩) (t := ⟨4, ![1, A, B, C]⟩) h.1 st (3 : Fin 4) 0 h3 (le_of_eq (Nat.zero_add _))
  refine congrArg x ?_
  rw [Shape.Idx.norm_def]
  funext a
  apply Fin.ext
  match a with
  | ⟨0, _⟩ => exact (congrArg (· + 0) c0)
  | ⟨1, _⟩ => exact (congrArg (· + s.val) c1).trans (Nat.zero_add _)
  | ⟨2, _⟩ => exact (congrArg (· + p.val) c2).trans (Nat.zero_add _)
  | ⟨3, _⟩ => exact (congrArg (· + t.val) c3).trans (Nat.zero_add _)

/-- Writing chunk `j` of a five-axis array: that chunk is the update, every other chunk stays. -/
theorem update5 {N A B C D : ℕ} (x : Shape.Idx ⟨5, ![N, A, B, C, D]⟩ → EReal) (u : Shape.Idx ⟨5, ![1, A, B, C, D]⟩ → EReal)
    (st : Fin 5 → Int) (h : Shape.Slices ⟨5, ![N, A, B, C, D]⟩ (fun _ => 0) ⟨5, ![1, A, B, C, D]⟩) (j : ℕ) (hj : j < N)
    (h0 : st 0 = (j : ℤ)) (h1 : st 1 = 0) (h2 : st 2 = 0) (h3 : st 3 = 0) (h4 : st 4 = 0)
    (n : Fin N) (s : Fin A) (p : Fin B) (t : Fin C) (k : Fin D) :
    Host.dynamicUpdateSlice x u st h (ix5 n s p t k) = if n.val = j then u (ix5 0 s p t k) else x (ix5 n s p t k) := by
  rw [Host.dynamicUpdateSlice_apply]
  have c0 := Host.clampedStart_of_le (s := ⟨5, ![N, A, B, C, D]⟩) (t := ⟨5, ![1, A, B, C, D]⟩) h.1 st (0 : Fin 5) j h0 hj
  have c1 := Host.clampedStart_of_le (s := ⟨5, ![N, A, B, C, D]⟩) (t := ⟨5, ![1, A, B, C, D]⟩) h.1 st (1 : Fin 5) 0 h1 (le_of_eq (Nat.zero_add _))
  have c2 := Host.clampedStart_of_le (s := ⟨5, ![N, A, B, C, D]⟩) (t := ⟨5, ![1, A, B, C, D]⟩) h.1 st (2 : Fin 5) 0 h2 (le_of_eq (Nat.zero_add _))
  have c3 := Host.clampedStart_of_le (s := ⟨5, ![N, A, B, C, D]⟩) (t := ⟨5, ![1, A, B, C, D]⟩) h.1 st (3 : Fin 5) 0 h3 (le_of_eq (Nat.zero_add _))
  have c4 := Host.clampedStart_of_le (s := ⟨5, ![N, A, B, C, D]⟩) (t := ⟨5, ![1, A, B, C, D]⟩) h.1 st (4 : Fin 5) 0 h4 (le_of_eq (Nat.zero_add _))
  by_cases hn : n.val = j
  · rw [if_pos hn, dif_pos]
    · refine congrArg u ?_
      rw [Shape.Idx.norm_def]
      funext a
      apply Fin.ext
      match a with
      | ⟨0, _⟩ => exact (congrArg (n.val - ·) c0).trans (Nat.sub_eq_zero_of_le hn.le)
      | ⟨1, _⟩ => exact congrArg (s.val - ·) c1
      | ⟨2, _⟩ => exact congrArg (p.val - ·) c2
      | ⟨3, _⟩ => exact congrArg (t.val - ·) c3
      | ⟨4, _⟩ => exact congrArg (k.val - ·) c4
    · intro a
      match a with
      | ⟨0, _⟩ => exact ⟨le_of_eq (c0.trans hn.symm), by show n.val < _ + 1; exact lt_of_lt_of_eq (Nat.lt_succ_of_le hn.le) (congrArg (· + 1) c0.symm)⟩
      | ⟨1, _⟩ => exact ⟨le_trans (le_of_eq c1) (Nat.zero_le _), lt_of_lt_of_eq s.isLt ((Nat.zero_add _).symm.trans (congrArg (· + A) c1.symm))⟩
      | ⟨2, _⟩ => exact ⟨le_trans (le_of_eq c2) (Nat.zero_le _), lt_of_lt_of_eq p.isLt ((Nat.zero_add _).symm.trans (congrArg (· + B) c2.symm))⟩
      | ⟨3, _⟩ => exact ⟨le_trans (le_of_eq c3) (Nat.zero_le _), lt_of_lt_of_eq t.isLt ((Nat.zero_add _).symm.trans (congrArg (· + C) c3.symm))⟩
      | ⟨4, _⟩ => exact ⟨le_trans (le_of_eq c4) (Nat.zero_le _), lt_of_lt_of_eq k.isLt ((Nat.zero_add _).symm.trans (congrArg (· + D) c4.symm))⟩
  · rw [if_neg hn, dif_neg]
    intro hin
    have a1 := le_trans (le_of_eq c0.symm) (hin (0 : Fin 5)).1
    have a2 := lt_of_lt_of_eq (hin (0 : Fin 5)).2 (congrArg (· + 1) c0)
    exact hn (le_antisymm (Nat.lt_succ_iff.mp a2) a1)

/-- A chunk's number as an integer. -/
theorem toInt_trip (j : ℕ) (hj : j < 32) : (BitVec.ofNat 32 j).toInt = (j : ℤ) := by
  rw [BitVec.toInt_eq_toNat_of_lt] <;> rw [BitVec.toNat_ofNat] <;> omega

section trip

variable (S : State Ideal) (j : ℕ) (hj : j < 32)

/-- The queries a step of the scan takes. -/
theorem q_trip (s : Fin 32) (p : Fin 4) (t : Fin 64) (k : Fin 128) : b5 j S (ix4 s p t k) = S.main_v55_0 (ix5 ⟨j, hj⟩ s p t k) := by
  pointwise [b5]
  exact slice5 _ _ _ j hj (toInt_trip j hj) rfl rfl rfl rfl s p t k

/-- The keys a step of the scan takes. -/
theorem k_trip (s : Fin 32) (p : Fin 4) (t : Fin 64) (k : Fin 128) : b11 j S (ix4 s p t k) = S.main_v55_1 (ix5 ⟨j, hj⟩ s p t k) := by
  pointwise [b11]
  exact slice5 _ _ _ j hj (toInt_trip j hj) rfl rfl rfl rfl s p t k

/-- The values a step of the scan takes. -/
theorem v_trip (s : Fin 32) (p : Fin 4) (t : Fin 64) (d : Fin 256) : b17 j S (ix4 s p t d) = S.main_v55_2 (ix5 ⟨j, hj⟩ s p t d) := by
  pointwise [b17]
  exact slice5 _ _ _ j hj (toInt_trip j hj) rfl rfl rfl rfl s p t d

/-- The decay a step of the scan takes. -/
theorem decay_trip (s : Fin 32) (p : Fin 4) (k : Fin 128) : b22 j S (ix3 s p k) = S.main_v55_3 (ix4 ⟨j, hj⟩ s p k) := by
  pointwise [b22]
  exact slice4 _ _ _ j hj (toInt_trip j hj) rfl rfl rfl s p k

/-- The chunk's own output a step of the scan takes. -/
theorem intra_trip (s : Fin 32) (p : Fin 4) (t : Fin 64) (d : Fin 256) : b28 j S (ix4 s p t d) = S.main_v55_4 (ix5 ⟨j, hj⟩ s p t d) := by
  pointwise [b28]
  exact slice5 _ _ _ j hj (toInt_trip j hj) rfl rfl rfl rfl s p t d

/-- The state after a trip. -/
theorem state_trip (s : Fin 32) (p : Fin 4) (k : Fin 128) (d : Fin 256) :
    b35 j S (ix4 s p k d) = S.main_v55_6 (ix4 s p k d) * S.main_v55_3 (ix4 ⟨j, hj⟩ s p k)
      + ∑ t : Fin 64, S.main_v55_1 (ix5 ⟨j, hj⟩ s p t k) * S.main_v55_2 (ix5 ⟨j, hj⟩ s p t d) := by
  pointwise [b35, b34, b33, b32, b31]
  simp only [k_trip S j hj, v_trip S j hj, decay_trip S j hj]

/-- The rows a trip writes. -/
theorem out_trip (n s : Fin 32) (p : Fin 4) (t : Fin 64) (d : Fin 256) :
    b41 j S (ix5 n s p t d) = if n.val = j then S.main_v55_4 (ix5 ⟨j, hj⟩ s p t d)
        + ∑ k : Fin 128, S.main_v55_0 (ix5 ⟨j, hj⟩ s p t k) * S.main_v55_6 (ix4 s p k d)
      else S.main_v55_7 (ix5 n s p t d) := by
  unfold b41
  refine (update5 _ _ _ _ j hj (toInt_trip j hj) rfl rfl rfl rfl n s p t d).trans ?_
  have e : b36 j S (ix5 0 s p t d) = S.main_v55_4 (ix5 ⟨j, hj⟩ s p t d)
        + ∑ k : Fin 128, S.main_v55_0 (ix5 ⟨j, hj⟩ s p t k) * S.main_v55_6 (ix4 s p k d) := by
    pointwise [b36, b30, b29]
    simp only [q_trip S j hj, intra_trip S j hj]
  rw [e]

end trip

variable (m : (ℓ : Loc nD τ sig) → Buf (Elt Ideal) ℓ) (c : Dev nD)

/-- The arrays the recurrence reads, of the memory the run starts from. -/
abbrev refInp : Inp :=
  inpOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The operands of the trips stay. -/
theorem operands (n : ℕ) : (states m c n).main_v55_0 = (start m c).main_v55_0 ∧ (states m c n).main_v55_1 = (start m c).main_v55_1
    ∧ (states m c n).main_v55_2 = (start m c).main_v55_2 ∧ (states m c n).main_v55_3 = (start m c).main_v55_3
    ∧ (states m c n).main_v55_4 = (start m c).main_v55_4 := by
  induction n with
  | zero => exact ⟨rfl, rfl, rfl, rfl, rfl⟩
  | succ n ih => exact ih

/-- Before trip `n` the carried state is the recurrence's state before chunk `n`. -/
theorem state_at (n : ℕ) (hn : n ≤ 32) (s : Fin 32) (p : Fin 4) (k : Fin 128) (d : Fin 256) :
    (states m c n).main_v55_6 (ix4 s p k d) = (refInp m c).st s p n k d := by
  induction n generalizing s p k d with
  | zero =>
    show K_main_v53 (F := Ideal) (ix4 s p k d) = 0
    pointwise [K_main_v53, K_main_cst_3]
    try simp [Ideal.ofBits, Ideal.ieee]
  | succ n ih =>
    have hn' : n < 32 := hn
    obtain ⟨-, e1, e2, e3, -⟩ := operands m c n
    show b35 n (states m c n) (ix4 s p k d) = ((refInp m c).ch s p n).next ((refInp m c).st s p n) k d
    rw [state_trip _ n hn', ih hn'.le, e1, e2, e3]
    unfold Ch.next
    refine congrArg₂ (· + ·) (congrArg (_ * ·) (decay_at _ _ _ _ _ _ s ⟨n, hn'⟩ p k)) (Finset.sum_congr rfl fun t _ => ?_)
    exact congrArg₂ (· * ·) (kend_at _ _ _ _ _ _ s ⟨n, hn'⟩ p t k) (v_at _ _ _ _ _ _ s ⟨n, hn'⟩ p t d)

/-- After `n` trips the rows of the chunks before `n` are the recurrence's output. -/
theorem out_at (n : ℕ) (hn : n ≤ 32) (i s : Fin 32) (p : Fin 4) (t : Fin 64) (d : Fin 256) (hi : i.val < n) :
    (states m c n).main_v55_7 (ix5 i s p t d) = (refInp m c).out s p i.val t d := by
  induction n with
  | zero => exact absurd hi (Nat.not_lt_zero _)
  | succ n ih =>
    have hn' : n < 32 := hn
    obtain ⟨e0, -, -, -, e4⟩ := operands m c n
    show b41 n (states m c n) (ix5 i s p t d) = _
    rw [out_trip _ n hn']
    split
    · next h =>
      rw [h, e0, e4]
      unfold Inp.out Ch.out
      refine congrArg₂ (· + ·) (intra_at _ _ _ _ _ _ s ⟨n, hn'⟩ p t d) (Finset.sum_congr rfl fun k _ => ?_)
      exact congrArg₂ (· * ·) (qdec_at _ _ _ _ _ _ s ⟨n, hn'⟩ p t k) (state_at m c n hn'.le s p k d)
    · next h => exact ih hn'.le (by omega)

/-- The reference's result. -/
theorem ref_result (s n : Fin 32) (p : Fin 4) (t : Fin 64) (d : Fin 256) :
    R_main_v58 (states m c 32) (ix3 s (grow n.val t) (val p d)) = (refInp m c).out s p n.val t d := by
  pointwise [R_main_v58]
  rw [← out_at m c 32 (le_refl _) n s p t d n.isLt]
  congr 1
  have e0 : (64 * (n.val % 32) + t.val) / 64 = n.val := by omega
  have e1 : (64 * (n.val % 32) + t.val) % 64 = t.val := by omega
  have e2 : (256 * p.val + d.val) / 256 = p.val := by omega
  have e3 : (256 * p.val + d.val) % 256 = d.val := by omega
  have f0 : ∀ h, (⟨(64 * (n.val % 32) + t.val) / 64, h⟩ : Fin 32) = n := fun h => Fin.ext e0
  have f1 : ∀ h, (⟨(64 * (n.val % 32) + t.val) % 64, h⟩ : Fin 64) = t := fun h => Fin.ext e1
  have f2 : ∀ h, (⟨(256 * p.val + d.val) / 256, h⟩ : Fin 4) = p := fun h => Fin.ext e2
  have f3 : ∀ h, (⟨(256 * p.val + d.val) % 256, h⟩ : Fin 256) = d := fun h => Fin.ext e3
  rw [f0, f1, f2, f3]

end Cert.GlaRef

end
-- ==== Proof.ClaimGla.lean ====
module
public import proofs.«01_k».proof.Defs
public import proofs.«01_k».proof.Proof.Gen.Kernel.Frame
public import proofs.«01_k».proof.Proof.Gen.KernelIdeal.Frame
public import proofs.«01_k».proof.Proof.KernelOut
public import proofs.«01_k».proof.Proof.RefOut
public import Idealize.ShloMosaic.Lib.Claim

/-! The claims about the forward recurrence. -/

@[expose] public section

noncomputable section

namespace Cert.Gla

open Idealize.ShloMosaic Idealize.SL.Sem

/-- Every index of the result is a row of a chunk and a value of a head. -/
theorem index_split (P : Fin 32 → Fin 2048 → Fin 1024 → Prop)
    (h : ∀ (s n : Fin 32) (p : Fin 4) (t : Fin 64) (d : Fin 256), P s (grow n.val t) (val p d)) (s : Fin 32) (r : Fin 2048) (l : Fin 1024) : P s r l := by
  have e1 : r = grow (⟨r.val / 64, by omega⟩ : Fin 32).val (⟨r.val % 64, by omega⟩ : Fin 64) := by
    apply Fin.ext
    show r.val = 64 * ((r.val / 64) % 32) + r.val % 64
    omega
  have e2 : l = val (⟨l.val / 256, by omega⟩ : Fin 4) (⟨l.val % 256, by omega⟩ : Fin 256) := by
    apply Fin.ext
    show l.val = 256 * (l.val / 256) + l.val % 256
    omega
  rw [e1, e2]
  exact h _ _ _ _ _

/-- The kernel's result is the reference's, from memories that agree on the arguments. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : inp m c = Cert.GlaRef.refInp m' c) :
    Cert.ReferenceIdeal.Step.R_main_v58 (Cert.GlaRef.states m' c 32) = Cert.KernelIdeal.Value.G6 m c := by
  funext i
  idx_vars i
  revert i0 i1 i2
  refine index_split _ fun s n p t d => ?_
  rw [Cert.GlaRef.ref_result, result, h]

/-- The kernel runs to its end and leaves its arguments as they were. -/
theorem frame_kernel : Cert.quiescent_Kernel (hKernel := Cert.Kernel.Gen.facts) := fun m ρ _ => Cert.Kernel.Gen.frame m ρ

/-- The kernel at exact arithmetic runs to its end and leaves its arguments as they were. -/
theorem frame_ideal : Cert.quiescent_KernelIdeal (hKernelIdeal := Cert.KernelIdeal.Gen.facts) := fun m ρ _ => Cert.KernelIdeal.Gen.frame m ρ

/-- The reference at exact arithmetic runs to its end and leaves its arguments as they were. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs compute the same, at exact arithmetic. -/
theorem algebraic : Cert.algebraic_KernelIdeal_ReferenceIdeal (hKernelIdeal := Cert.KernelIdeal.Gen.facts)
    (hReferenceIdeal := Cert.ReferenceIdeal.Gen.facts) := fun m g m' g' _ hag =>
  ⟨fun c => Cert.KernelIdeal.Value.G6 m c, Cert.KernelIdeal.Value.run (F := Ideal) m g,
    (θ_run Cert.ReferenceIdeal.defs _ _).mono (fun r h c => ⟨((h c).1.trans (Cert.GlaRef.out_states m' c)).trans (results_eq m m' c (by
      obtain ⟨e0, e1, e2, e3, e4, e5⟩ := hag c
      unfold Cert.GlaRef.refInp
      rw [e0, e1, e2, e3, e4, e5]
      rfl)), (h c).2⟩) (Cert.ReferenceIdeal.Value.run (F := Ideal) m' g')⟩

end Cert.Gla

end
-- ==== Proof.MidMath.lean ====
module
public import Idealize.ShloMosaic.Lib.Pipeline.ValueKit.Point

/-! The middle projection's mathematics: the even layer's output product and residual, the norm, the odd layer's
    input product. -/

@[expose] public section

noncomputable section

open Idealize.ShloMosaic

namespace Cert.Middle

/-- What the middle projection is computed from. -/
@[ext] structure Inp where
  X : Fin 65536 → Fin 1024 → EReal
  A : Fin 65536 → Fin 512 → EReal
  B : Fin 65536 → Fin 512 → EReal
  W : Fin 1024 → Fin 1024 → EReal
  n : Fin 1024 → EReal
  I : Fin 1024 → Fin 3088 → EReal

namespace Inp

variable (P : Inp)

/-- The residual stream: the two halves' products added to the input. -/
def x1 (r : Fin 65536) (l : Fin 1024) : EReal :=
  P.X r l + ∑ k : Fin 512, P.A r k * P.W ⟨k.val, by omega⟩ l + ∑ k : Fin 512, P.B r k * P.W ⟨512 + k.val, by omega⟩ l

/-- The residual stream over its root mean square, times the norm's weights. -/
def xn (r : Fin 65536) (l : Fin 1024) : EReal :=
  P.x1 r l * Ideal.rsqrt (Ideal.div (∑ k, P.x1 r k * P.x1 r k) (Ideal.ofBits .f32 1149239296#32) + Ideal.ofBits .f32 897988541#32) * P.n l

/-- The projection, in the weights' own column order. -/
def proj (r : Fin 65536) (l : Fin 3088) : EReal := ∑ k, P.xn r k * P.I k l

/-- The weights in the kernel's column order: the latents' columns last, zeros after them. -/
def wCol (k : Fin 1024) (l : Fin 3200) : EReal :=
  if h : l.val < 2048 then P.I k ⟨l.val, by omega⟩
  else if h : l.val < 3072 then P.I k ⟨l.val + 16, by omega⟩
  else if h : l.val < 3088 then P.I k ⟨l.val - 1024, by omega⟩
  else 0

/-- The projection, in the kernel's column order. -/
def kcol (r : Fin 65536) (l : Fin 3200) : EReal := ∑ k, P.xn r k * P.wCol k l

/-- The first columns are in their own order. -/
theorem kcol_low (r : Fin 65536) (l : Fin 3200) (h : l.val < 2048) : P.kcol r l = P.proj r ⟨l.val, by omega⟩ :=
  Finset.sum_congr rfl fun k _ => by rw [wCol, dif_pos h]

/-- The gate's columns stand before the latents'. -/
theorem kcol_gate (r : Fin 65536) (l : Fin 3200) (h0 : ¬ l.val < 2048) (h : l.val < 3072) : P.kcol r l = P.proj r ⟨l.val + 16, by omega⟩ :=
  Finset.sum_congr rfl fun k _ => by rw [wCol, dif_neg h0, dif_pos h]

/-- The latents' columns, and zeros past them. -/
theorem kcol_latent (r : Fin 65536) (l : Fin 3200) (h : ¬ l.val < 3072) :
    P.kcol r l = if h : l.val < 3088 then P.proj r ⟨l.val - 1024, by omega⟩ else 0 := by
  by_cases h' : l.val < 3088
  · rw [dif_pos h']
    exact Finset.sum_congr rfl fun k _ => by rw [wCol, dif_neg (by omega), dif_neg h, dif_pos h']
  · rw [dif_neg h']
    exact Finset.sum_eq_zero fun k _ => by rw [wCol, dif_neg (by omega), dif_neg h, dif_neg h', mul_zero]

end Inp

end Cert.Middle

end
-- ==== Proof.MidKernel.lean ====
module
public import proofs.«01_k».proof.Proof.Gen.MidIdeal.Value
public import proofs.«01_k».proof.Proof.MidMath
public import Idealize.ShloMosaic.Lib.Pipeline.ValueKit.Point
public import Idealize.ShloMosaic.Lib.Claim
public import Idealize.ShloMosaic.Lib.StableHlo.ReadAt
public import Idealize.ShloMosaic.Lib.WholeRead

/-! The middle projection's results at an index. -/

@[expose] public section

set_option maxRecDepth 100000
set_option maxHeartbeats 2000000

noncomputable section

open Cert.MidIdeal Cert.MidIdeal.Gen Idealize.ShloMosaic Idealize.ShloMosaic.TcCoe Idealize.SL.Sem

namespace Cert.Middle

variable (m : (ℓ : Loc nD τ sig) → Buf (Elt Ideal) ℓ) (c : Dev nD)

/-- Where block 0 lies at a point. -/
theorem idx0 : ∀ t : Fin cfg0.N, win0_0.index t = ![t.val, 0] := (by decide +kernel : ∀ t : Fin grid0.N, win0_0.index t = ![t.val, 0])
/-- Where block 1 lies at a point. -/
theorem idx1 : ∀ t : Fin cfg0.N, win0_1.index t = ![t.val, 0] := (by decide +kernel : ∀ t : Fin grid0.N, win0_1.index t = ![t.val, 0])
/-- Where block 2 lies at a point. -/
theorem idx2 : ∀ t : Fin cfg0.N, win0_2.index t = ![t.val, 0] := (by decide +kernel : ∀ t : Fin grid0.N, win0_2.index t = ![t.val, 0])
/-- Where block 3 lies at a point. -/
theorem idx3 : ∀ t : Fin cfg0.N, win0_3.index t = ![0, 0] := (by decide +kernel : ∀ t : Fin grid0.N, win0_3.index t = ![0, 0])
/-- Where block 4 lies at a point. -/
theorem idx4 : ∀ t : Fin cfg0.N, win0_4.index t = ![0, 0] := (by decide +kernel : ∀ t : Fin grid0.N, win0_4.index t = ![0, 0])
/-- Where block 5 lies at a point. -/
theorem idx5 : ∀ t : Fin cfg0.N, win0_5.index t = ![0, 0] := (by decide +kernel : ∀ t : Fin grid0.N, win0_5.index t = ![0, 0])

/-- A row of a grid point's block, in the array. -/
abbrev pos (t : Fin cfg0.N) (r : Fin 1024) : Fin 65536 :=
  ⟨t.val * 1024 + r.val, by have := lt_of_lt_of_eq t.isLt (show cfg0.N = 64 from N_0); omega⟩

/-- Block 0 at an index, read off the memory before the launch. -/
theorem read0 (t : Fin cfg0.N) (r l : Fin 1024) :
    iblk m c 0 t (ix2 r l) = m ((c : Thread nD τ).loc main_arg0) (ix2 (pos t r) l) := by
  blk_point [iblk, idx0 t]
/-- Block 1 at an index, read off the memory before the launch. -/
theorem read1 (t : Fin cfg0.N) (r : Fin 1024) (l : Fin 512) :
    iblk m c 1 t (ix2 r l) = m ((c : Thread nD τ).loc main_arg1) (ix2 (pos t r) l) := by
  blk_point [iblk, idx1 t]
/-- Block 2 at an index, read off the memory before the launch. -/
theorem read2 (t : Fin cfg0.N) (r : Fin 1024) (l : Fin 512) :
    iblk m c 2 t (ix2 r l) = m ((c : Thread nD τ).loc main_arg2) (ix2 (pos t r) l) := by
  blk_point [iblk, idx2 t]

/-- The output weights, cast before the launch. -/
theorem wOut (k l : Fin 1024) : V m c main_v7 (ix2 k l) = m ((c : Thread nD τ).loc main_arg3) (ix3 0 k l) := by
  unfold V
  after_reads_at

/-- The norm's weights, reshaped before the launch. -/
theorem wNorm (l : Fin 1024) : V m c main_v10 (ix2 0 l) = m ((c : Thread nD τ).loc main_arg4) (ix2 0 l) := by
  unfold V
  after_reads_at

/-- Block 3 at an index, read off the memory before the launch. -/
theorem read3 (t : Fin cfg0.N) (k l : Fin 1024) : iblk m c 3 t (ix2 k l) = m ((c : Thread nD τ).loc main_arg3) (ix3 0 k l) := by
  refine Eq.trans ?_ (wOut m c k l)
  unfold iblk
  blk_simp
  refine congrArg (V m c main_v7) ?_
  blk_ext! [idx3 t]
/-- Block 4 at an index, read off the memory before the launch. -/
theorem read4 (t : Fin cfg0.N) (l : Fin 1024) : iblk m c 4 t (ix2 0 l) = m ((c : Thread nD τ).loc main_arg4) (ix2 0 l) := by
  refine Eq.trans ?_ (wNorm m c l)
  unfold iblk
  blk_simp
  refine congrArg (V m c main_v10) ?_
  blk_ext! [idx4 t]
/-- Block 5 at an index, read off the memory before the launch. -/
theorem read5 (t : Fin cfg0.N) (k : Fin 1024) (l : Fin 3200) : iblk m c 5 t (ix2 k l) = V m c main_v9 (ix2 k l) := by
  unfold iblk
  blk_simp
  refine congrArg (V m c main_v9) ?_
  blk_ext! [idx5 t]

/-- What the projection is computed from, read off the launch's memory. -/
def inp : Inp where
  X r l := m ((c : Thread nD τ).loc main_arg0) (ix2 r l)
  A r l := m ((c : Thread nD τ).loc main_arg1) (ix2 r l)
  B r l := m ((c : Thread nD τ).loc main_arg2) (ix2 r l)
  W k l := m ((c : Thread nD τ).loc main_arg3) (ix3 0 k l)
  n l := m ((c : Thread nD τ).loc main_arg4) (ix2 0 l)
  I k l := m ((c : Thread nD τ).loc main_arg5) (ix3 0 k l)

/-- The input weights, their columns reordered and padded before the launch. -/
theorem wIn (k : Fin 1024) (l : Fin 3200) : V m c main_v9 (ix2 k l) = (inp m c).wCol k l := by
  unfold V
  after_reads_at
  unfold Inp.wCol
  by_cases h : l.val < 2048
  · rw [dif_pos h, dif_pos h]
    after_reads_at
    rfl
  · rw [dif_neg h, dif_neg h]
    by_cases h' : l.val < 3072
    · rw [dif_pos (by omega), dif_pos h']
      after_reads_at
      exact congrArg (fun j => m (c, Proc.tc.devRef main_arg5) (ix3 0 k j)) (Fin.ext (by show 2064 + (l.val - 2048) = l.val + 16; omega))
    · rw [dif_neg (by omega), dif_neg h']
      after_reads_at
      by_cases h3 : l.val < 3088
      · have h4 : l.val - 2048 - 1024 < 16 := by omega
        have e : (⟨2048 + (l.val - 2048 - 1024), by omega⟩ : Fin 3088) = ⟨l.val - 1024, by omega⟩ := Fin.ext (by dsimp only; omega)
        refine (dif_pos h4).trans (Eq.trans ?_ (dif_pos h3).symm)
        exact congrArg (fun j : Fin 3088 => m (c, Proc.tc.devRef main_arg5) (ix3 0 k j)) e
      · have h4 : ¬ l.val - 2048 - 1024 < 16 := by omega
        refine (dif_neg h4).trans (Eq.trans ?_ (dif_neg h3).symm)
        show (((0#32 : BitVec 32).toInt : ℝ) : EReal) = 0
        simp

variable (t : Fin cfg0.N)

/-- The residual stream's block, of the blocks it is computed from. -/
theorem pay1_apply (v0 : Vec Ideal S1024x1024 .f32) (v1 : Vec Ideal S1024x512 .bf16) (v2 : Vec Ideal S512x1024 .bf16) (v6 : Vec Ideal S1024x512 .bf16) (v7 : Vec Ideal S512x1024 .bf16) (r l : Fin 1024) :
    k0_pay1 v0 v1 v2 v6 v7 (ix2 r l) = v0 (ix2 r l) + ∑ k, v1 (ix2 r k) * v2 (ix2 k l) + ∑ k, v6 (ix2 r k) * v7 (ix2 k l) := by
  pointwise [k0_pay1]

/-- A point's block of the residual stream. -/
theorem x1_apply (r l : Fin 1024) :
    k0_pay1 (iblk m c 0 t) (iblk m c 1 t) (View.ld (iblk m c 3 t) r0_2) (iblk m c 2 t) (View.ld (iblk m c 3 t) r0_3) (ix2 r l)
      = (inp m c).x1 (pos t r) l := by
  rw [pay1_apply]
  pointwise
  simp only [read0, read1, read2, read3]
  rfl

/-- A point's block of the normed stream. -/
theorem xn_apply (r l : Fin 1024) :
    k0_pay2 (iblk m c 0 t) (iblk m c 1 t) (View.ld (iblk m c 3 t) r0_2) (iblk m c 2 t) (View.ld (iblk m c 3 t) r0_3) (iblk m c 4 t) (ix2 r l)
      = (inp m c).xn (pos t r) l := by
  unfold k0_pay2
  have hx := x1_apply m c t
  generalize k0_pay1 (F := Ideal) _ _ _ _ _ = x at hx ⊢
  pointwise
  simp only [hx, read4]
  rfl

/-- A point's block of a column of the projection. -/
theorem col_apply (r : Fin 1024) (l : Fin 3200) :
    ∑ k, k0_pay2 (iblk m c 0 t) (iblk m c 1 t) (View.ld (iblk m c 3 t) r0_2) (iblk m c 2 t) (View.ld (iblk m c 3 t) r0_3) (iblk m c 4 t) (ix2 r k) * iblk m c 5 t (ix2 k l)
      = (inp m c).kcol (pos t r) l :=
  Finset.sum_congr rfl fun k _ => by rw [xn_apply, read5, wIn]

/-- Where block 6 lies at a point. -/
theorem idx6 : ∀ t : Fin cfg0.N, win0_6.index t = ![t.val, 0] := (by decide +kernel : ∀ t : Fin grid0.N, win0_6.index t = ![t.val, 0])
/-- Where block 7 lies at a point. -/
theorem idx7 : ∀ t : Fin cfg0.N, win0_7.index t = ![t.val, 0] := (by decide +kernel : ∀ t : Fin grid0.N, win0_7.index t = ![t.val, 0])
/-- Where block 8 lies at a point. -/
theorem idx8 : ∀ t : Fin cfg0.N, win0_8.index t = ![t.val, 0] := (by decide +kernel : ∀ t : Fin grid0.N, win0_8.index t = ![t.val, 0])
/-- Where block 9 lies at a point. -/
theorem idx9 : ∀ t : Fin cfg0.N, win0_9.index t = ![t.val, 0] := (by decide +kernel : ∀ t : Fin grid0.N, win0_9.index t = ![t.val, 0])
/-- Where block 10 lies at a point. -/
theorem idx10 : ∀ t : Fin cfg0.N, win0_10.index t = ![t.val, 0] := (by decide +kernel : ∀ t : Fin grid0.N, win0_10.index t = ![t.val, 0])
/-- Where block 11 lies at a point. -/
theorem idx11 : ∀ t : Fin cfg0.N, win0_11.index t = ![t.val, 0] := (by decide +kernel : ∀ t : Fin grid0.N, win0_11.index t = ![t.val, 0])

/-- The residual stream. -/
def out6 : Vec Ideal S65536x1024 .f32 := fun i => (inp m c).x1 (i 0) (i 1)
/-- The queries. -/
def out7 : Vec Ideal S65536x512 .f32 := fun i => (inp m c).proj (i 0) ⟨(i 1).val, by have : (i 1).val < 512 := (i 1).isLt; omega⟩
/-- The keys. -/
def out8 : Vec Ideal S65536x512 .f32 := fun i => (inp m c).proj (i 0) ⟨512 + (i 1).val, by have : (i 1).val < 512 := (i 1).isLt; omega⟩
/-- The values. -/
def out9 : Vec Ideal S65536x1024 .bf16 := fun i => (inp m c).proj (i 0) ⟨1024 + (i 1).val, by have : (i 1).val < 1024 := (i 1).isLt; omega⟩
/-- The gate. -/
def out10 : Vec Ideal S65536x1024 .f32 := fun i => (inp m c).proj (i 0) ⟨2064 + (i 1).val, by have : (i 1).val < 1024 := (i 1).isLt; omega⟩
/-- The latents, padded with zeros. -/
def out11 : Vec Ideal S65536x128 .f32 := fun i =>
  if h : (i 1).val < 16 then (inp m c).proj (i 0) ⟨2048 + (i 1).val, by omega⟩ else (0 : EReal)

/-- The residual stream's result. -/
theorem result6 : (dats m 0 c).arrAt 6 cfg0.N = out6 m c := by
  refine (dats m 0 c).arrAt_eq_of_covers 6 _ (by decide +kernel) fun t hf y => ?_
  blk_simp
  rw [after0_6]
  frame_out
  idx_vars y
  refine (x1_apply m c t y0 y1).trans ?_
  exact congrArg₂ (inp m c).x1 (Fin.ext (by blk_simp [idx6 t])) (Fin.ext (by blk_simp [idx6 t]))

/-- The queries' result. -/
theorem result7 : (dats m 0 c).arrAt 7 cfg0.N = out7 m c := by
  refine (dats m 0 c).arrAt_eq_of_covers 7 _ (by decide +kernel) fun t hf y => ?_
  blk_simp
  rw [after0_7]
  frame_out
  idx_vars y
  have hc := col_apply m c t y0
  unfold k0_pay3
  generalize k0_pay2 (F := Ideal) _ _ _ _ _ _ = x at hc ⊢
  pointwise
  rw [hc ⟨y1.val, by omega⟩, Inp.kcol_low _ _ _ (by show y1.val < 2048; omega)]
  exact congrArg₂ (inp m c).proj (Fin.ext (by blk_simp [idx7 t])) (Fin.ext (by blk_simp [idx7 t]))

/-- The keys' result. -/
theorem result8 : (dats m 0 c).arrAt 8 cfg0.N = out8 m c := by
  refine (dats m 0 c).arrAt_eq_of_covers 8 _ (by decide +kernel) fun t hf y => ?_
  blk_simp
  rw [after0_8]
  unfold_out out0_8
  frame_out
  idx_vars y
  have hc := col_apply m c t y0
  generalize k0_pay2 (F := Ideal) _ _ _ _ _ _ = x at hc ⊢
  pointwise [k0_pay4]
  rw [hc ⟨512 + y1.val, by omega⟩, Inp.kcol_low _ _ _ (by show 512 + y1.val < 2048; omega)]
  exact congrArg₂ (inp m c).proj (Fin.ext (by blk_simp [idx8 t])) (Fin.ext (by blk_simp [idx8 t]))

/-- Window 9. -/
theorem result9 : (dats m 0 c).arrAt 9 cfg0.N = out9 m c := by
  refine (dats m 0 c).arrAt_eq_of_covers 9 _ (by decide +kernel) fun t hf y => ?_
  blk_simp
  rw [after0_9]
  unfold_out out0_9
  frame_out
  have hc := col_apply m c t
  generalize k0_pay2 (F := Ideal) _ _ _ _ _ _ = x at hc ⊢
  canon_tiles z h
  · idx_vars z
    idx_vars y
    pointwise [k0_pay6]
    rw [hc z0 ⟨1536 + z1.val, by omega⟩, Inp.kcol_low _ _ _ (by show 1536 + z1.val < 2048; omega)]
    exact congrArg₂ (inp m c).proj (Fin.ext (by blk_simp [idx9 t]; (try dsimp only); omega)) (Fin.ext (by blk_simp [idx9 t]; (try dsimp only); omega))
  · idx_vars z
    idx_vars y
    pointwise [k0_pay5]
    rw [hc z0 ⟨1024 + z1.val, by omega⟩, Inp.kcol_low _ _ _ (by show 1024 + z1.val < 2048; omega)]
    exact congrArg₂ (inp m c).proj (Fin.ext (by blk_simp [idx9 t]; (try dsimp only); omega)) (Fin.ext (by blk_simp [idx9 t]; (try dsimp only); omega))

/-- Window 10. -/
theorem result10 : (dats m 0 c).arrAt 10 cfg0.N = out10 m c := by
  refine (dats m 0 c).arrAt_eq_of_covers 10 _ (by decide +kernel) fun t hf y => ?_
  blk_simp
  rw [after0_10]
  unfold_out out0_10
  frame_out
  have hc := col_apply m c t
  generalize k0_pay2 (F := Ideal) _ _ _ _ _ _ = x at hc ⊢
  canon_tiles z h
  · idx_vars z
    idx_vars y
    pointwise [k0_pay8]
    rw [hc z0 ⟨2560 + z1.val, by omega⟩, Inp.kcol_gate _ _ _ (by show ¬ 2560 + z1.val < 2048; omega) (by show 2560 + z1.val < 3072; omega)]
    exact congrArg₂ (inp m c).proj (Fin.ext (by blk_simp [idx10 t]; (try dsimp only); omega)) (Fin.ext (by blk_simp [idx10 t]; (try dsimp only); omega))
  · idx_vars z
    idx_vars y
    pointwise [k0_pay7]
    rw [hc z0 ⟨2048 + z1.val, by omega⟩, Inp.kcol_gate _ _ _ (by show ¬ 2048 + z1.val < 2048; omega) (by show 2048 + z1.val < 3072; omega)]
    exact congrArg₂ (inp m c).proj (Fin.ext (by blk_simp [idx10 t]; (try dsimp only); omega)) (Fin.ext (by blk_simp [idx10 t]; (try dsimp only); omega))

/-- Window 11. -/
theorem result11 : (dats m 0 c).arrAt 11 cfg0.N = out11 m c := by
  refine (dats m 0 c).arrAt_eq_of_covers 11 _ (by decide +kernel) fun t hf y => ?_
  blk_simp
  rw [after0_11]
  unfold_out out0_11
  frame_out
  idx_vars y
  have hc := col_apply m c t y0
  generalize k0_pay2 (F := Ideal) _ _ _ _ _ _ = x at hc ⊢
  pointwise [k0_pay9]
  rw [hc ⟨3072 + y1.val, by omega⟩, Inp.kcol_latent _ _ _ (by show ¬ 3072 + y1.val < 3072; omega)]
  have e0 : (((View.whole main_v11_5).slice (win0_11.rect t)).emb (ix2 y0 y1)) 0 = pos t y0 := Fin.ext (by blk_simp [idx11 t])
  have e1 : (((View.whole main_v11_5).slice (win0_11.rect t)).emb (ix2 y0 y1)) 1 = y1 := Fin.ext (by blk_simp [idx11 t])
  unfold out11
  generalize (((View.whole main_v11_5).slice (win0_11.rect t)).emb (ix2 y0 y1)) = i at e0 e1 ⊢
  have e1' : (i 1).val = y1.val := congrArg Fin.val e1
  by_cases h : y1.val < 16
  · have h3 : 3072 + y1.val < 3088 := by omega
    have h4 : (i 1).val < 16 := by omega
    refine (dif_pos h3).trans (Eq.trans ?_ (dif_pos h4).symm)
    exact congrArg₂ (inp m c).proj e0.symm (Fin.ext (by show 3072 + y1.val - 1024 = 2048 + (i 1).val; omega))
  · have h3 : ¬ 3072 + y1.val < 3088 := by omega
    have h4 : ¬ (i 1).val < 16 := by omega
    refine (dif_neg h3).trans ?_
    rw [dif_neg h4]

end Cert.Middle

end
-- ==== Proof.MidRef.lean ====
module
public import proofs.«01_k».proof.Proof.Gen.MidReferenceIdeal.Read
public import proofs.«01_k».proof.Proof.MidMath
public import Idealize.ShloMosaic.Lib.Pipeline.ValueKit.Point

/-! The middle projection's mathematics, as the reference computes it. -/

@[expose] public section

set_option maxRecDepth 100000
set_option maxHeartbeats 2000000

noncomputable section

open Cert.MidReferenceIdeal Cert.MidReferenceIdeal.Gen Cert.MidReferenceIdeal.Read Idealize.ShloMosaic Idealize.ShloMosaic.TcCoe Idealize.SL.Sem

namespace Cert.Middle.Ref

variable (a0 : Vec Ideal S65536x1024 .f32) (a1 a2 : Vec Ideal S65536x512 .bf16) (a3 : Vec Ideal S1x1024x1024 .f32)
  (a4 : Vec Ideal S1x1024 .f32) (a5 : Vec Ideal S1x1024x3088 .f32)

/-- What the projection is computed from, read off the arguments. -/
def inpOf : Inp where
  X r l := a0 (ix2 r l)
  A r l := a1 (ix2 r l)
  B r l := a2 (ix2 r l)
  W k l := a3 (ix3 0 k l)
  n l := a4 (ix2 0 l)
  I k l := a5 (ix3 0 k l)

/-- The residual stream. -/
theorem x1_at (r : Fin 65536) (l : Fin 1024) : val_main_v5 a0 a1 a2 a3 (ix2 r l) = (inpOf a0 a1 a2 a3 a4 a5).x1 r l := by
  pointwise [val_main_v5, val_main_v4, val_main_v3, val_main_v2, val_main_v1, val_main_v0]
  rw [← add_assoc]
  rfl

/-- The normed stream. -/
theorem xn_at (r : Fin 65536) (l : Fin 1024) : val_main_v19 a0 a1 a2 a3 a4 (ix2 r l) = (inpOf a0 a1 a2 a3 a4 a5).xn r l := by
  have hx := x1_at a0 a1 a2 a3 a4 a5
  unfold val_main_v19 val_main_v16 val_main_v15 val_main_v14 val_main_v13 val_main_v11 val_main_v9 val_main_v8 val_main_v7
  generalize val_main_v5 a0 a1 a2 a3 = x at hx ⊢
  pointwise [val_main_cst, val_main_cst_0, val_main_cst_1, val_main_v12, val_main_v10, val_main_v18, val_main_v17, val_main_v6]
  simp only [hx]
  rfl

/-- The projection. -/
theorem proj_at (r : Fin 65536) (l : Fin 3088) : val_main_v21 a0 a1 a2 a3 a4 a5 (ix2 r l) = (inpOf a0 a1 a2 a3 a4 a5).proj r l := by
  have hx := xn_at a0 a1 a2 a3 a4 a5
  unfold val_main_v21
  generalize val_main_v19 a0 a1 a2 a3 a4 = x at hx ⊢
  pointwise [val_main_v20]
  simp only [hx]
  rfl

/-- The latents, padded with zeros. -/
theorem latents_at (r : Fin 65536) (l : Fin 128) : val_main_v23 a0 a1 a2 a3 a4 a5 (ix2 r l)
    = if h : l.val < 16 then (inpOf a0 a1 a2 a3 a4 a5).proj r ⟨2048 + l.val, by omega⟩ else (0 : EReal) := by
  have hx := proj_at a0 a1 a2 a3 a4 a5
  unfold val_main_v23 val_main_v22
  generalize val_main_v21 a0 a1 a2 a3 a4 a5 = x at hx ⊢
  pointwise [val_main_call0_v0, val_main_c]
  by_cases h : l.val < 16
  · rw [dif_pos h, dif_pos h, hx]
  · rw [dif_neg h, dif_neg h]
    show (((0#32 : BitVec 32).toInt : ℝ) : EReal) = 0
    simp

/-- The queries. -/
theorem queries_at (r : Fin 65536) (l : Fin 512) : val_main_v24 a0 a1 a2 a3 a4 a5 (ix2 r l)
    = (inpOf a0 a1 a2 a3 a4 a5).proj r ⟨l.val, by omega⟩ := by
  have hx := proj_at a0 a1 a2 a3 a4 a5
  unfold val_main_v24
  generalize val_main_v21 a0 a1 a2 a3 a4 a5 = x at hx ⊢
  pointwise
  exact hx _ _

/-- The keys. -/
theorem keys_at (r : Fin 65536) (l : Fin 512) : val_main_v25 a0 a1 a2 a3 a4 a5 (ix2 r l)
    = (inpOf a0 a1 a2 a3 a4 a5).proj r ⟨512 + l.val, by omega⟩ := by
  have hx := proj_at a0 a1 a2 a3 a4 a5
  unfold val_main_v25
  generalize val_main_v21 a0 a1 a2 a3 a4 a5 = x at hx ⊢
  pointwise
  exact hx _ _

/-- The gate. -/
theorem gate_at (r : Fin 65536) (l : Fin 1024) : val_main_v28 a0 a1 a2 a3 a4 a5 (ix2 r l)
    = (inpOf a0 a1 a2 a3 a4 a5).proj r ⟨2064 + l.val, by omega⟩ := by
  have hx := proj_at a0 a1 a2 a3 a4 a5
  unfold val_main_v28
  generalize val_main_v21 a0 a1 a2 a3 a4 a5 = x at hx ⊢
  pointwise
  exact hx _ _

/-- The values. -/
theorem values_at (r : Fin 65536) (l : Fin 1024) : val_main_v27 a0 a1 a2 a3 a4 a5 (ix2 r l)
    = (inpOf a0 a1 a2 a3 a4 a5).proj r ⟨1024 + l.val, by omega⟩ := by
  have hx := proj_at a0 a1 a2 a3 a4 a5
  unfold val_main_v27 val_main_v26
  generalize val_main_v21 a0 a1 a2 a3 a4 a5 = x at hx ⊢
  pointwise
  exact hx _ _

end Cert.Middle.Ref

end
-- ==== Proof.ClaimMid.lean ====
module
public import proofs.«01_k».proof.Defs
public import proofs.«01_k».proof.Proof.Gen.Mid.Frame
public import proofs.«01_k».proof.Proof.MidKernel
public import proofs.«01_k».proof.Proof.MidRef
public import Idealize.ShloMosaic.Lib.Claim

/-! The claims about the middle projection. -/

@[expose] public section

set_option maxHeartbeats 1000000

noncomputable section

namespace Cert.Middle

open Idealize.ShloMosaic Idealize.SL.Sem

/-- The kernel runs to its end and leaves its arguments as they were. -/
theorem frame_kernel : Cert.quiescent_Mid (hMid := Cert.Mid.Gen.facts) := fun m ρ _ => Cert.Mid.Gen.frame m ρ

/-- The kernel at exact arithmetic runs to its end and leaves its arguments as they were. -/
theorem frame_ideal : Cert.quiescent_MidIdeal (hMidIdeal := Cert.MidIdeal.Gen.facts) := fun m ρ _ => Cert.MidIdeal.Gen.frame m ρ

/-- The reference at exact arithmetic runs to its end and leaves its arguments as they were. -/
theorem frame_reference : Cert.quiescent_MidReferenceIdeal (hMidReferenceIdeal := Cert.MidReferenceIdeal.Gen.facts) := fun m ρ _ =>
  (θ_run Cert.MidReferenceIdeal.defs _ _).mono (fun r h => ⟨fun c => (h c).2.2.2.2.2.2, sem_eq_zero_of_no_sems (by decide) r.2⟩)
    (Cert.MidReferenceIdeal.Value.run (F := Ideal) m ρ)

open Cert.MidReferenceIdeal.Read in
/-- The reference's results are the kernel's, where the two are computed from the same. -/
theorem results_eq (m : (ℓ : Loc Cert.MidIdeal.nD Cert.MidIdeal.τ Cert.MidIdeal.sig) → Buf (Elt Ideal) ℓ) (c : Dev Cert.MidIdeal.nD)
    (a0 : Vec Ideal ⟨2, ![65536, 1024]⟩ .f32) (a1 a2 : Vec Ideal ⟨2, ![65536, 512]⟩ .bf16) (a3 : Vec Ideal ⟨3, ![1, 1024, 1024]⟩ .f32)
    (a4 : Vec Ideal ⟨2, ![1, 1024]⟩ .f32) (a5 : Vec Ideal ⟨3, ![1, 1024, 3088]⟩ .f32) (h : Ref.inpOf a0 a1 a2 a3 a4 a5 = inp m c) :
    val_main_v5 a0 a1 a2 a3 = out6 m c ∧ val_main_v24 a0 a1 a2 a3 a4 a5 = out7 m c ∧ val_main_v25 a0 a1 a2 a3 a4 a5 = out8 m c
      ∧ val_main_v27 a0 a1 a2 a3 a4 a5 = out9 m c ∧ val_main_v28 a0 a1 a2 a3 a4 a5 = out10 m c ∧ val_main_v23 a0 a1 a2 a3 a4 a5 = out11 m c := by
  refine ⟨?_, ?_, ?_, ?_, ?_, ?_⟩ <;> funext i <;> idx_vars i
  · exact (Ref.x1_at a0 a1 a2 a3 a4 a5 i0 i1).trans (by rw [h]; rfl)
  · exact (Ref.queries_at a0 a1 a2 a3 a4 a5 i0 i1).trans (by rw [h]; rfl)
  · exact (Ref.keys_at a0 a1 a2 a3 a4 a5 i0 i1).trans (by rw [h]; rfl)
  · exact (Ref.values_at a0 a1 a2 a3 a4 a5 i0 i1).trans (by rw [h]; rfl)
  · exact (Ref.gate_at a0 a1 a2 a3 a4 a5 i0 i1).trans (by rw [h]; rfl)
  · exact (Ref.latents_at a0 a1 a2 a3 a4 a5 i0 i1).trans (by rw [h]; rfl)

open Cert.MidReferenceIdeal.Read in
/-- The two programs compute the same, at exact arithmetic. -/
theorem algebraic : Cert.algebraic_MidIdeal_MidReferenceIdeal (hMidIdeal := Cert.MidIdeal.Gen.facts)
    (hMidReferenceIdeal := Cert.MidReferenceIdeal.Gen.facts) := fun m g m' g' _ hag =>
  ⟨fun c => out6 m c, fun c => out7 m c, fun c => out8 m c, fun c => out9 m c, fun c => out10 m c, fun c => out11 m c,
    (θ_run Cert.MidIdeal.defs _ _).mono (fun r h c => by
      obtain ⟨h6, h7, h8, h9, h10, h11, hargs⟩ := h c
      exact ⟨h6.trans (result6 m c), h7.trans (result7 m c), h8.trans (result8 m c), h9.trans (result9 m c), h10.trans (result10 m c),
        h11.trans (result11 m c), hargs⟩) (Cert.MidIdeal.Value.run_blocks (F := Ideal) m g),
    (θ_run Cert.MidReferenceIdeal.defs _ _).mono (fun r h c => by
      obtain ⟨h5, h24, h25, h27, h28, h23, hargs⟩ := h c
      obtain ⟨e0, e1, e2, e3, e4, e5⟩ := hag c
      obtain ⟨r6, r7, r8, r9, r10, r11⟩ := results_eq m c _ _ _ _ _ _ (show Ref.inpOf
        (m' ((c.tc : Thread Cert.MidReferenceIdeal.nD Cert.MidReferenceIdeal.τ).loc Cert.MidReferenceIdeal.main_arg0))
        (m' ((c.tc : Thread Cert.MidReferenceIdeal.nD Cert.MidReferenceIdeal.τ).loc Cert.MidReferenceIdeal.main_arg1))
        (m' ((c.tc : Thread Cert.MidReferenceIdeal.nD Cert.MidReferenceIdeal.τ).loc Cert.MidReferenceIdeal.main_arg2))
        (m' ((c.tc : Thread Cert.MidReferenceIdeal.nD Cert.MidReferenceIdeal.τ).loc Cert.MidReferenceIdeal.main_arg3))
        (m' ((c.tc : Thread Cert.MidReferenceIdeal.nD Cert.MidReferenceIdeal.τ).loc Cert.MidReferenceIdeal.main_arg4))
        (m' ((c.tc : Thread Cert.MidReferenceIdeal.nD Cert.MidReferenceIdeal.τ).loc Cert.MidReferenceIdeal.main_arg5)) = inp m c from by
          unfold Ref.inpOf inp
          rw [e0, e1, e2, e3, e4, e5])
      exact ⟨h5.trans r6, h24.trans r7, h25.trans r8, h27.trans r9, h28.trans r10, h23.trans r11, hargs⟩)
      (Cert.MidReferenceIdeal.Value.run (F := Ideal) m' g')⟩

end Cert.Middle

end
-- ==== Proof.EvenMath.lean ====
module
public import Idealize.ShloMosaic.Lib.Pipeline.ValueKit.Point

/-! The front projection's mathematics: the even layer's norm and input product, the token shift, the rotary positions. -/

@[expose] public section

noncomputable section

open Idealize.ShloMosaic

namespace Cert.Front

/-- What the front projection is computed from. -/
@[ext] structure Inp where
  X : Fin 65536 → Fin 1024 → EReal
  n : Fin 1024 → EReal
  W : Fin 1024 → Fin 4224 → EReal
  mp : Fin 1664 → EReal
  mn : Fin 1664 → EReal

/-- A position or a lane, as a number. -/
def num (n : ℕ) : EReal := FloatOps.sitofp (F := Ideal) .f32 (BitVec.ofNat 32 n)

/-- The frequency of a pair of a head's lanes. -/
def freq (f : Fin 32) : EReal :=
  Ideal.pow (Ideal.ofBits .f32 1176256512#32) (Ideal.div (-(Ideal.ofBits .f32 1073741824#32 * num f.val)) (Ideal.ofBits .f32 1115684864#32))

/-- The rotation's angle at a position. -/
def angle (s : Fin 2048) (f : Fin 32) : EReal := num s.val * freq f

/-- The cosine of the rotation's angle. -/
def cosA (s : Fin 2048) (f : Fin 32) : EReal := Ideal.cos (angle s f)

/-- The sine of the rotation's angle. -/
def sinA (s : Fin 2048) (f : Fin 32) : EReal := Ideal.sin (angle s f)

/-- A position's 512 lanes rotated: in each head of 64 lanes the first half pairs with the second. -/
def rope (T : Fin 512 → EReal) (s : Fin 2048) (c : Fin 512) : EReal :=
  if h : c.val % 64 < 32 then T c * cosA s ⟨c.val % 64, h⟩ - T ⟨c.val + 32, by omega⟩ * sinA s ⟨c.val % 64, h⟩
  else T ⟨c.val - 32, by omega⟩ * sinA s ⟨c.val % 64 - 32, by omega⟩ + T c * cosA s ⟨c.val % 64 - 32, by omega⟩

/-- The rotation, a head and its lane at a time. -/
theorem rope_split (T : Fin 512 → EReal) (s : Fin 2048) (h : Fin 8) (d : Fin 64) : rope T s ⟨h.val * 64 + d.val, by omega⟩
    = if hd : d.val < 32 then T ⟨h.val * 64 + d.val, by omega⟩ * cosA s ⟨d.val, hd⟩ - T ⟨h.val * 64 + (32 + d.val), by omega⟩ * sinA s ⟨d.val, hd⟩
      else T ⟨h.val * 64 + (d.val - 32), by omega⟩ * sinA s ⟨d.val - 32, by omega⟩
        + T ⟨h.val * 64 + (32 + (d.val - 32)), by omega⟩ * cosA s ⟨d.val - 32, by omega⟩ := by
  have e : (h.val * 64 + d.val) % 64 = d.val := by omega
  unfold rope
  by_cases hd : d.val < 32
  · rw [dif_pos hd]
    refine (dif_pos (by simp only [e]; exact hd)).trans ?_
    simp only [e]
    rw [show (⟨h.val * 64 + d.val + 32, by omega⟩ : Fin 512) = ⟨h.val * 64 + (32 + d.val), by omega⟩ from Fin.ext (by simp only; omega)]
  · rw [dif_neg hd]
    refine (dif_neg (by simp only [e]; exact hd)).trans ?_
    simp only [e]
    rw [show (⟨h.val * 64 + d.val - 32, by omega⟩ : Fin 512) = ⟨h.val * 64 + (d.val - 32), by omega⟩ from Fin.ext (by simp only; omega),
      show (⟨h.val * 64 + (32 + (d.val - 32)), by omega⟩ : Fin 512) = ⟨h.val * 64 + d.val, by omega⟩ from Fin.ext (by simp only; omega)]

namespace Inp

variable (P : Inp)

/-- The input over its root mean square, times the norm's weights. -/
def xn (r : Fin 65536) (l : Fin 1024) : EReal :=
  P.X r l * Ideal.rsqrt (Ideal.div (∑ k, P.X r k * P.X r k) (Ideal.ofBits .f32 1149239296#32) + Ideal.ofBits .f32 897988541#32) * P.n l

/-- The projection. -/
def proj (r : Fin 65536) (l : Fin 4224) : EReal := ∑ k, P.xn r k * P.W k l

/-- The projection of the row before, zero at a sequence's start. -/
def before (r : Fin 65536) (l : Fin 4224) : EReal := if r.val % 2048 = 0 then 0 else P.proj ⟨r.val - 1, by omega⟩ l

/-- The projection of the row after, zero at a sequence's end. -/
def after (r : Fin 65536) (l : Fin 4224) : EReal := if h : r.val % 2048 = 2047 then 0 else P.proj ⟨r.val + 1, by omega⟩ l

/-- A projected column mixed with its two neighbours in time. -/
def shifted (r : Fin 65536) (l : Fin 1664) : EReal :=
  P.proj r ⟨l.val, by omega⟩ + P.mp l * (P.before r ⟨l.val, by omega⟩ - P.proj r ⟨l.val, by omega⟩)
    + P.mn l * (P.after r ⟨l.val, by omega⟩ - P.proj r ⟨l.val, by omega⟩)

/-- The rotated and scaled queries. -/
def query (r : Fin 65536) (c : Fin 512) : EReal :=
  rope (fun c => P.proj r ⟨2176 + c.val, by omega⟩) ⟨r.val % 2048, by omega⟩ c * Ideal.ofBits .f32 1040187392#32

/-- The rotated keys. -/
def key (r : Fin 65536) (c : Fin 512) : EReal := rope (fun c => P.proj r ⟨2688 + c.val, by omega⟩) ⟨r.val % 2048, by omega⟩ c

/-- The values. -/
def value (r : Fin 65536) (c : Fin 512) : EReal := P.proj r ⟨3200 + c.val, by omega⟩

end Inp

end Cert.Front
-- ==== Proof.EvenRead.lean ====
module
public import proofs.«01_k».proof.Proof.Gen.EvenIdeal.Frame.Runs
public import proofs.«01_k».proof.Proof.EvenMath
public import Idealize.ShloMosaic.Lib.Pipeline.ValueKit.Point
public import Idealize.ShloMosaic.Lib.Claim
public import Idealize.ShloMosaic.Lib.StableHlo.ReadAt
public import Idealize.ShloMosaic.Lib.WholeRead

/-! The blocks the front projection's kernel reads, at an index. -/

@[expose] public section

set_option maxRecDepth 100000
set_option maxHeartbeats 2000000

noncomputable section

open Cert.EvenIdeal Cert.EvenIdeal.Gen Idealize.ShloMosaic Idealize.ShloMosaic.TcCoe Idealize.SL.Sem

namespace Cert.Front

variable (m : (ℓ : Loc nD τ sig) → Buf (Elt Ideal) ℓ) (c : Dev nD)

/-- Block 0 is the point's rows. -/
theorem idx0 : ∀ t : Fin cfg0.N, win0_0.index t = ![t.val, 0] := (by decide +kernel : ∀ t : Fin grid0.N, win0_0.index t = ![t.val, 0])
/-- Block 1 is the eight rows before the point's. -/
theorem idx1 : ∀ t : Fin cfg0.N, win0_1.index t = ![t.val * 64 - 1, 0] := (by decide +kernel : ∀ t : Fin grid0.N, win0_1.index t = ![t.val * 64 - 1, 0])
/-- Block 2 is the eight rows after the point's. -/
theorem idx2 : ∀ t : Fin cfg0.N, win0_2.index t = ![min (t.val * 64 + 64) 8191, 0] := (by decide +kernel : ∀ t : Fin grid0.N, win0_2.index t = ![min (t.val * 64 + 64) 8191, 0])
/-- Block 3 is the norm's weights. -/
theorem idx3 : ∀ t : Fin cfg0.N, win0_3.index t = ![0, 0] := (by decide +kernel : ∀ t : Fin grid0.N, win0_3.index t = ![0, 0])
/-- Block 4 is the input weights. -/
theorem idx4 : ∀ t : Fin cfg0.N, win0_4.index t = ![0, 0] := (by decide +kernel : ∀ t : Fin grid0.N, win0_4.index t = ![0, 0])
/-- Block 5 is the cosines of the point's positions. -/
theorem idx5 : ∀ t : Fin cfg0.N, win0_5.index t = ![t.val % 4, 0] := (by decide +kernel : ∀ t : Fin grid0.N, win0_5.index t = ![t.val % 4, 0])
/-- Block 6 is the sines of the point's positions. -/
theorem idx6 : ∀ t : Fin cfg0.N, win0_6.index t = ![t.val % 4, 0] := (by decide +kernel : ∀ t : Fin grid0.N, win0_6.index t = ![t.val % 4, 0])
/-- Block 7 is the shift's weights of the row before. -/
theorem idx7 : ∀ t : Fin cfg0.N, win0_7.index t = ![0, 0] := (by decide +kernel : ∀ t : Fin grid0.N, win0_7.index t = ![0, 0])
/-- Block 8 is the shift's weights of the row after. -/
theorem idx8 : ∀ t : Fin cfg0.N, win0_8.index t = ![0, 0] := (by decide +kernel : ∀ t : Fin grid0.N, win0_8.index t = ![0, 0])

/-- The number of points. -/
theorem n_points : cfg0.N = 128 := by decide +kernel

/-- A point's row. -/
abbrev pos (t : Fin cfg0.N) (r : Fin 512) : Fin 65536 := ⟨t.val * 512 + r.val, by have := lt_of_lt_of_eq t.isLt n_points; omega⟩

/-- A point's position in its sequence. -/
abbrev seqPos (t : Fin cfg0.N) (r : Fin 512) : Fin 2048 := ⟨t.val % 4 * 512 + r.val, by omega⟩

/-- What the projection is computed from, read off the launch's memory. -/
def inp : Inp where
  X r l := m ((c : Thread nD τ).loc main_arg0) (ix2 r l)
  n l := m ((c : Thread nD τ).loc main_arg1) (ix2 0 l)
  W k l := m ((c : Thread nD τ).loc main_arg2) (ix3 0 k l)
  mp l := m ((c : Thread nD τ).loc main_arg3) (ix2 0 l)
  mn l := m ((c : Thread nD τ).loc main_arg4) (ix2 0 l)

/-- The norm's weights before the launch. -/
theorem hostNorm (l : Fin 1024) : V m c main_v27 (ix2 0 l) = (inp m c).n l := by
  unfold V
  after_reads_at
  rfl
/-- The input weights before the launch. -/
theorem hostW (k : Fin 1024) (l : Fin 4224) : V m c main_v2 (ix2 k l) = (inp m c).W k l := by
  unfold V
  after_reads_at
  rfl
/-- The shift's weights of the row before, before the launch. -/
theorem hostPrev (l : Fin 1664) : V m c main_v28 (ix2 0 l) = (inp m c).mp l := by
  unfold V
  after_reads_at
  rfl
/-- The shift's weights of the row after, before the launch. -/
theorem hostNext (l : Fin 1664) : V m c main_v29 (ix2 0 l) = (inp m c).mn l := by
  unfold V
  after_reads_at
  rfl
/-- A cosine as the host writes it. -/
theorem cos_form (s : Fin 2048) (l f : ℕ) (hf : f < 32) (h : l = f) :
    Ideal.cos (FloatOps.sitofp (F := Ideal) .f32 (BitVec.ofNat 32 s.val) * Ideal.pow (Ideal.ofBits .f32 1176256512#32)
      (Ideal.div (-(Ideal.ofBits .f32 1073741824#32 * FloatOps.sitofp (F := Ideal) .f32 (BitVec.ofNat 32 l))) (Ideal.ofBits .f32 1115684864#32))) = cosA s ⟨f, hf⟩ := by
  subst h
  rfl
/-- A sine as the host writes it. -/
theorem sin_form (s : Fin 2048) (l f : ℕ) (hf : f < 32) (h : l = f) :
    Ideal.sin (FloatOps.sitofp (F := Ideal) .f32 (BitVec.ofNat 32 s.val) * Ideal.pow (Ideal.ofBits .f32 1176256512#32)
      (Ideal.div (-(Ideal.ofBits .f32 1073741824#32 * FloatOps.sitofp (F := Ideal) .f32 (BitVec.ofNat 32 l))) (Ideal.ofBits .f32 1115684864#32))) = sinA s ⟨f, hf⟩ := by
  subst h
  rfl

/-- The table of cosines: each head's 64 lanes twice, two heads side by side. -/
theorem hostCos (s : Fin 2048) (l : Fin 128) : V m c main_v23 (ix2 s l) = cosA s ⟨l.val % 32, by omega⟩ := by
  unfold V
  after_reads_at
  by_cases h : l.val < 32
  · refine (dif_pos h).trans ?_
    after_reads_at
    exact cos_form s _ _ _ (by omega)
  · refine (dif_neg h).trans ?_
    by_cases h2 : l.val - 32 < 32
    · refine (dif_pos h2).trans ?_
      after_reads_at
      exact cos_form s _ _ _ (by omega)
    · refine (dif_neg h2).trans ?_
      by_cases h3 : l.val - 32 - 32 < 32
      · refine (dif_pos h3).trans ?_
        after_reads_at
        exact cos_form s _ _ _ (by omega)
      · refine (dif_neg h3).trans ?_
        after_reads_at
        exact cos_form s _ _ _ (by omega)
/-- The table of sines, negative in the first half of each head's lanes. -/
theorem hostSin (s : Fin 2048) (l : Fin 128) : V m c main_v26 (ix2 s l)
    = if l.val % 64 < 32 then -sinA s ⟨l.val % 32, by omega⟩ else sinA s ⟨l.val % 32, by omega⟩ := by
  unfold V
  after_reads_at
  by_cases h : l.val < 32
  · refine ((dif_pos h).trans ?_).trans (if_pos (show l.val % 64 < 32 by omega)).symm
    after_reads_at
    exact congrArg Neg.neg (sin_form s _ _ _ (by omega))
  · refine (dif_neg h).trans ?_
    by_cases h2 : l.val - 32 < 32
    · refine ((dif_pos h2).trans ?_).trans (if_neg (show ¬ l.val % 64 < 32 by omega)).symm
      after_reads_at
      exact sin_form s _ _ _ (by omega)
    · refine (dif_neg h2).trans ?_
      by_cases h3 : l.val - 32 - 32 < 32
      · refine ((dif_pos h3).trans ?_).trans (if_pos (show l.val % 64 < 32 by omega)).symm
        after_reads_at
        exact congrArg Neg.neg (sin_form s _ _ _ (by omega))
      · refine ((dif_neg h3).trans ?_).trans (if_neg (show ¬ l.val % 64 < 32 by omega)).symm
        after_reads_at
        exact sin_form s _ _ _ (by omega)

variable (t : Fin cfg0.N)

/-- The point's rows. -/
theorem read0 (r : Fin 512) (l : Fin 1024) : iblk m c 0 t (ix2 r l) = (inp m c).X (pos t r) l := by
  blk_point [iblk, idx0 t]
/-- The last row before the point's. -/
theorem read1 (h : 0 < t.val) (l : Fin 1024) : iblk m c 1 t (ix2 7 l) = (inp m c).X ⟨t.val * 512 - 1, by have := lt_of_lt_of_eq t.isLt n_points; omega⟩ l := by
  blk_point [iblk, idx1 t]
/-- The first row after the point's. -/
theorem read2 (h : t.val < 127) (l : Fin 1024) : iblk m c 2 t (ix2 0 l) = (inp m c).X ⟨t.val * 512 + 512, by omega⟩ l := by
  blk_point [iblk, idx2 t]
/-- The norm's weights. -/
theorem read3 (l : Fin 1024) : iblk m c 3 t (ix2 0 l) = (inp m c).n l := by
  refine Eq.trans ?_ (hostNorm m c l)
  unfold iblk
  blk_simp
  refine congrArg (V m c main_v27) ?_
  blk_ext! [idx3 t]
/-- The input weights. -/
theorem read4 (k : Fin 1024) (l : Fin 4224) : iblk m c 4 t (ix2 k l) = (inp m c).W k l := by
  refine Eq.trans ?_ (hostW m c k l)
  unfold iblk
  blk_simp
  refine congrArg (V m c main_v2) ?_
  blk_ext! [idx4 t]
/-- The cosines. -/
theorem read5 (r : Fin 512) (l : Fin 128) : iblk m c 5 t (ix2 r l) = cosA (seqPos t r) ⟨l.val % 32, by omega⟩ := by
  refine Eq.trans ?_ (hostCos m c (seqPos t r) l)
  unfold iblk
  blk_simp
  refine congrArg (V m c main_v23) ?_
  blk_ext! [idx5 t]
/-- The sines. -/
theorem read6 (r : Fin 512) (l : Fin 128) : iblk m c 6 t (ix2 r l)
    = if l.val % 64 < 32 then -sinA (seqPos t r) ⟨l.val % 32, by omega⟩ else sinA (seqPos t r) ⟨l.val % 32, by omega⟩ := by
  refine Eq.trans ?_ (hostSin m c (seqPos t r) l)
  unfold iblk
  blk_simp
  refine congrArg (V m c main_v26) ?_
  blk_ext! [idx6 t]
/-- The shift's weights of the row before. -/
theorem read7 (l : Fin 1664) : iblk m c 7 t (ix2 0 l) = (inp m c).mp l := by
  refine Eq.trans ?_ (hostPrev m c l)
  unfold iblk
  blk_simp
  refine congrArg (V m c main_v28) ?_
  blk_ext! [idx7 t]
/-- The shift's weights of the row after. -/
theorem read8 (l : Fin 1664) : iblk m c 8 t (ix2 0 l) = (inp m c).mn l := by
  refine Eq.trans ?_ (hostNext m c l)
  unfold iblk
  blk_simp
  refine congrArg (V m c main_v29) ?_
  blk_ext! [idx8 t]

end Cert.Front

end
-- ==== Proof.EvenPay.lean ====
module
public import proofs.«01_k».proof.Proof.EvenRead

/-! What the front projection's kernel computes at a grid point: the normed rows with their two neighbours, the products, the shift, the rotation. -/

@[expose] public section

set_option maxRecDepth 100000
set_option maxHeartbeats 2000000

noncomputable section

open Cert.EvenIdeal Cert.EvenIdeal.Gen Idealize.ShloMosaic Idealize.ShloMosaic.TcCoe Idealize.SL.Sem

namespace Cert.Front

variable (m : (ℓ : Loc nD τ sig) → Buf (Elt Ideal) ℓ) (c : Dev nD) (t : Fin cfg0.N)

/-- The point's normed rows. -/
theorem rows_apply (r : Fin 512) (l : Fin 1024) : k0_pay1 (iblk m c 0 t) (iblk m c 3 t) (ix2 r l) = (inp m c).xn (pos t r) l := by
  pointwise [k0_pay1]
  simp only [read0, read3]
  rfl

/-- The normed rows with the eight before and the eight after. -/
abbrev halo : FVec Ideal S528x1024 .bf16 :=
  k0_pay7 (k0_pay1 (iblk m c 0 t) (iblk m c 3 t)) (k0_pay4 (iblk m c 1 t) (iblk m c 2 t)) (k0_pay5 (iblk m c 3 t)) (k0_pay6 (iblk m c 1 t) (iblk m c 2 t))

/-- Among them the point's own. -/
theorem halo_own (r : Fin 512) (l : Fin 1024) : halo m c t (ix2 ⟨r.val, by omega⟩ l) = (inp m c).xn (pos t r) l := by
  refine Eq.trans ?_ (rows_apply m c t r l)
  unfold halo
  generalize k0_pay1 (F := Ideal) _ _ = x
  pointwise [k0_pay7, k0_pay4, k0_pay5, k0_pay6]

/-- Among them the row before the point's first. -/
theorem halo_prev (h : 0 < t.val) (l : Fin 1024) :
    halo m c t (ix2 519 l) = (inp m c).xn ⟨t.val * 512 - 1, by have := lt_of_lt_of_eq t.isLt n_points; omega⟩ l := by
  unfold halo
  generalize k0_pay1 (F := Ideal) _ _ = x
  pointwise [k0_pay7, k0_pay4, k0_pay5, k0_pay6]
  simp only [read1 m c t h, read3]
  rfl

/-- Among them the row after the point's last. -/
theorem halo_next (h : t.val < 127) (l : Fin 1024) : halo m c t (ix2 520 l) = (inp m c).xn ⟨t.val * 512 + 512, by omega⟩ l := by
  unfold halo
  generalize k0_pay1 (F := Ideal) _ _ = x
  pointwise [k0_pay7, k0_pay4, k0_pay5, k0_pay6]
  simp only [read2 m c t h, read3]
  rfl

/-! ## The products -/

/-- The point's rows of the projection's columns from `o` on. -/
def Flat (o : ℕ) (B : Fin 512 → Fin 512 → EReal) : Prop :=
  ∀ (r j : Fin 512) (k : Fin 4224), o + j.val = k.val → B r j = (inp m c).proj (pos t r) k

/-- The same columns with the row before and the row after. -/
structure Wide (o : ℕ) (A : FVec Ideal S528x512 .f32) : Prop where
  own : Flat m c t o fun r j => A (ix2 ⟨r.val, by omega⟩ j)
  prev : ∀ (_ : 0 < t.val) (j : Fin 512) (k : Fin 4224), o + j.val = k.val →
    A (ix2 519 j) = (inp m c).proj ⟨t.val * 512 - 1, by have := lt_of_lt_of_eq t.isLt n_points; omega⟩ k
  next : ∀ (_ : t.val < 127) (j : Fin 512) (k : Fin 4224), o + j.val = k.val →
    A (ix2 520 j) = (inp m c).proj ⟨t.val * 512 + 512, by omega⟩ k

/-- The products of the point's rows. -/
theorem flat_of (o : ℕ) (B : FVec Ideal S512x512 .f32)
    (hB : ∀ (r j : Fin 512) (k : Fin 4224), o + j.val = k.val →
      B (ix2 r j) = ∑ i : Fin 1024, k0_pay1 (iblk m c 0 t) (iblk m c 3 t) (ix2 r i) * iblk m c 4 t (ix2 i k)) :
    Flat m c t o fun r j => B (ix2 r j) := by
  intro r j k h
  refine (hB r j k h).trans (Finset.sum_congr rfl fun i _ => ?_)
  rw [rows_apply, read4]

/-- The products of the rows with their neighbours. -/
theorem wide_of (o : ℕ) (A : FVec Ideal S528x512 .f32)
    (hA : ∀ (r : Fin 528) (j : Fin 512) (k : Fin 4224), o + j.val = k.val →
      A (ix2 r j) = ∑ i : Fin 1024, halo m c t (ix2 r i) * iblk m c 4 t (ix2 i k)) : Wide m c t o A where
  own r j k h := (hA _ j k h).trans (Finset.sum_congr rfl fun i _ => by rw [halo_own, read4])
  prev ht j k h := (hA _ j k h).trans (Finset.sum_congr rfl fun i _ => by rw [halo_prev m c t ht, read4])
  next ht j k h := (hA _ j k h).trans (Finset.sum_congr rfl fun i _ => by rw [halo_next m c t ht, read4])

/-- The input weights' 512 columns from `o` on. -/
abbrev cols (o : ℕ) (h : ∀ a, (![0, o] : Fin 2 → ℕ) a + (![1024, 512] : Fin 2 → ℕ) a ≤ S1024x4224.size a) : Vec Ideal S1024x512 .bf16 :=
  @View.ld (Elt Ideal) S1024x4224 .bf16 (iblk m c 4 t) (Rect.unit (s := S1024x4224) ![0, o] ![1024, 512] h)

/-- Columns 0 to 511. -/
theorem wide0 : Wide m c t 0 (k0_pay10 (k0_pay1 (iblk m c 0 t) (iblk m c 3 t)) (k0_pay4 (iblk m c 1 t) (iblk m c 2 t)) (k0_pay5 (iblk m c 3 t))
    (k0_pay6 (iblk m c 1 t) (iblk m c 2 t)) (cols m c t 0 inb_S1024x4224_S1024x512_0_0)) :=
  wide_of m c t 0 _ fun r j k h => by
    obtain ⟨k, hk⟩ := k
    obtain rfl : j.val = k := by change 0 + j.val = k at h; omega
    unfold k0_pay10 halo cols
    generalize k0_pay7 (F := Ideal) _ _ _ _ = x
    pointwise
/-- Columns 512 to 1023. -/
theorem wide1 : Wide m c t 512 (k0_pay27 (halo m c t) (cols m c t 512 inb_S1024x4224_S1024x512_0_512)) :=
  wide_of m c t 512 _ fun r j k h => by
    obtain ⟨k, hk⟩ := k
    change 512 + j.val = k at h
    subst h
    unfold k0_pay27 halo cols
    generalize k0_pay7 (F := Ideal) _ _ _ _ = x
    pointwise
/-- Columns 1024 to 1535. -/
theorem wide2 : Wide m c t 1024 (k0_pay47 (halo m c t) (cols m c t 1024 inb_S1024x4224_S1024x512_0_1024)) :=
  wide_of m c t 1024 _ fun r j k h => by
    obtain ⟨k, hk⟩ := k
    change 1024 + j.val = k at h
    subst h
    unfold k0_pay47 halo cols
    generalize k0_pay7 (F := Ideal) _ _ _ _ = x
    pointwise
/-- Columns 1536 to 2047. -/
theorem wide3 : Wide m c t 1536 (k0_pay65 (halo m c t) (cols m c t 1536 inb_S1024x4224_S1024x512_0_1536)) :=
  wide_of m c t 1536 _ fun r j k h => by
    obtain ⟨k, hk⟩ := k
    change 1536 + j.val = k at h
    subst h
    unfold k0_pay65 halo cols
    generalize k0_pay7 (F := Ideal) _ _ _ _ = x
    pointwise
/-- Columns 2048 to 2559. -/
theorem flat4 : Flat m c t 2048 fun r j => k0_pay74 (k0_pay1 (iblk m c 0 t) (iblk m c 3 t)) (cols m c t 2048 inb_S1024x4224_S1024x512_0_2048) (ix2 r j) :=
  flat_of m c t 2048 _ fun r j k h => by
    obtain ⟨k, hk⟩ := k
    change 2048 + j.val = k at h
    subst h
    unfold k0_pay74 cols
    pointwise
/-- Columns 2560 to 3071. -/
theorem flat5 : Flat m c t 2560 fun r j => k0_pay161 (k0_pay1 (iblk m c 0 t) (iblk m c 3 t)) (cols m c t 2560 inb_S1024x4224_S1024x512_0_2560) (ix2 r j) :=
  flat_of m c t 2560 _ fun r j k h => by
    obtain ⟨k, hk⟩ := k
    change 2560 + j.val = k at h
    subst h
    unfold k0_pay161 cols
    pointwise
/-- Columns 3072 to 3583. -/
theorem flat6 : Flat m c t 3072 fun r j => k0_pay280 (k0_pay1 (iblk m c 0 t) (iblk m c 3 t)) (cols m c t 3072 inb_S1024x4224_S1024x512_0_3072) (ix2 r j) :=
  flat_of m c t 3072 _ fun r j k h => by
    obtain ⟨k, hk⟩ := k
    change 3072 + j.val = k at h
    subst h
    unfold k0_pay280 cols
    pointwise
/-- Columns 3584 to 4095. -/
theorem flat7 : Flat m c t 3584 fun r j => k0_pay402 (k0_pay1 (iblk m c 0 t) (iblk m c 3 t)) (cols m c t 3584 inb_S1024x4224_S1024x512_0_3584) (ix2 r j) :=
  flat_of m c t 3584 _ fun r j k h => by
    obtain ⟨k, hk⟩ := k
    change 3584 + j.val = k at h
    subst h
    unfold k0_pay402 cols
    pointwise
/-- Columns 4096 to 4223. -/
theorem flat8 (r : Fin 512) (l : Fin 128) (k : Fin 4224) (h : 4096 + l.val = k.val) :
    k0_pay433 (k0_pay1 (iblk m c 0 t) (iblk m c 3 t))
      (@View.ld (Elt Ideal) S1024x4224 .bf16 (iblk m c 4 t) (Rect.unit (s := S1024x4224) ![0, 4096] ![1024, 128] inb_S1024x4224_S1024x128_0_4096)) (ix2 r l) = (inp m c).proj (pos t r) k := by
  obtain ⟨k, hk⟩ := k
  change 4096 + l.val = k at h
  subst h
  have hx := rows_apply m c t r
  generalize k0_pay1 (F := Ideal) _ _ = x at hx ⊢
  pointwise [k0_pay433]
  exact Finset.sum_congr rfl fun i _ => by rw [hx, read4]

/-! ## The shift -/

/-- Where in its sequence the point's block lies, as the kernel computes it. -/
theorem phase : ∀ t : Fin cfg0.N,
    Scalar.select (Scalar.andi (Scalar.xori (Scalar.cmpi CmpIPredicate.slt (Scalar.remsi (BitVec.ofNat 32 (grid0.coords t 0).val) 4#32) 0#32) 0#1)
        (Scalar.cmpi CmpIPredicate.ne (Scalar.remsi (BitVec.ofNat 32 (grid0.coords t 0).val) 4#32) 0#32))
      (Scalar.addi (Scalar.remsi (BitVec.ofNat 32 (grid0.coords t 0).val) 4#32) 4#32) (Scalar.remsi (BitVec.ofNat 32 (grid0.coords t 0).val) 4#32)
      = BitVec.ofNat 32 (t.val % 4) :=
  (by decide +kernel : ∀ t : Fin grid0.N,
    Scalar.select (Scalar.andi (Scalar.xori (Scalar.cmpi CmpIPredicate.slt (Scalar.remsi (BitVec.ofNat 32 (grid0.coords t 0).val) 4#32) 0#32) 0#1)
        (Scalar.cmpi CmpIPredicate.ne (Scalar.remsi (BitVec.ofNat 32 (grid0.coords t 0).val) 4#32) 0#32))
      (Scalar.addi (Scalar.remsi (BitVec.ofNat 32 (grid0.coords t 0).val) 4#32) 4#32) (Scalar.remsi (BitVec.ofNat 32 (grid0.coords t 0).val) 4#32)
      = BitVec.ofNat 32 (t.val % 4))

/-- The first row is chosen by its number. -/
theorem first_row : ∀ r : Fin 512, IntOp.cmpi CmpIPredicate.eq (BitVec.ofNat 32 r.val) 0#32 = if r.val = 0 then 1#1 else 0#1 := by decide +kernel
/-- The last row is chosen by its number. -/
theorem last_row : ∀ r : Fin 512, IntOp.cmpi CmpIPredicate.eq (BitVec.ofNat 32 r.val) 511#32 = if r.val = 511 then 1#1 else 0#1 := by decide +kernel
/-- A sequence's first block has no row before. -/
theorem has_prev : ∀ q : Fin 4, ((((Scalar.extui (Scalar.cmpi CmpIPredicate.sgt (BitVec.ofNat 32 q.val) 0#32) : BitVec 32).toInt : ℤ) : ℝ) : EReal) = if q.val = 0 then 0 else 1 := by
  have h : ∀ q : Fin 4, (Scalar.extui (Scalar.cmpi CmpIPredicate.sgt (BitVec.ofNat 32 q.val) 0#32) : BitVec 32).toInt = if q.val = 0 then 0 else 1 := by decide +kernel
  intro q
  rw [h]
  split <;> simp
/-- A sequence's last block has no row after. -/
theorem has_next : ∀ q : Fin 4, ((((Scalar.extui (Scalar.cmpi CmpIPredicate.slt (BitVec.ofNat 32 q.val) 3#32) : BitVec 32).toInt : ℤ) : ℝ) : EReal) = if q.val = 3 then 0 else 1 := by
  have h : ∀ q : Fin 4, (Scalar.extui (Scalar.cmpi CmpIPredicate.slt (BitVec.ofNat 32 q.val) 3#32) : BitVec 32).toInt = if q.val = 3 then 0 else 1 := by decide +kernel
  intro q
  rw [h]
  split <;> simp

/-- A choice on a bit that is set or not by a proposition. -/
theorem select_if {p : Prop} [Decidable p] (a b : EReal) : Scalar.select (if p then 1#1 else 0#1) a b = if p then a else b := by
  split <;> rfl

/-- The row before, as the kernel puts it together. -/
theorem before_form (o : ℕ) (A : FVec Ideal S528x512 .f32) (hA : Wide m c t o A) (r : Fin 512) (j : Fin 512) (k : Fin 4224) (hk : o + j.val = k.val) :
    Scalar.select (IntOp.cmpi CmpIPredicate.eq (BitVec.ofNat 32 r.val) 0#32)
      (A (ix2 519 j) * ((((Scalar.extui (Scalar.cmpi CmpIPredicate.sgt (BitVec.ofNat 32 (t.val % 4)) 0#32) : BitVec 32).toInt : ℤ) : ℝ) : EReal))
      (A (ix2 ⟨(r.val + 512 - 1) % 512, by omega⟩ j)) = (inp m c).before (pos t r) k := by
  have hN := lt_of_lt_of_eq t.isLt n_points
  rw [first_row, select_if, has_prev ⟨t.val % 4, by omega⟩]
  unfold Inp.before
  by_cases h0 : r.val = 0
  · rw [if_pos h0]
    by_cases hq : t.val % 4 = 0
    · rw [if_pos hq, if_pos (by dsimp only; omega), mul_zero]
    · rw [if_neg hq, if_neg (by dsimp only; omega), mul_one, hA.prev (by omega) j k hk]
      exact congrArg (fun x => (inp m c).proj x k) (Fin.ext (by dsimp only; omega))
  · rw [if_neg h0, if_neg (by dsimp only; omega)]
    refine Eq.trans (congrArg (fun x => A (ix2 x j)) (Fin.ext (by dsimp only; omega))) ((hA.own ⟨r.val - 1, by omega⟩ j k hk).trans ?_)
    exact congrArg (fun x => (inp m c).proj x k) (Fin.ext (by dsimp only; omega))

/-- The row after, as the kernel puts it together. -/
theorem after_form (o : ℕ) (A : FVec Ideal S528x512 .f32) (hA : Wide m c t o A) (r : Fin 512) (j : Fin 512) (k : Fin 4224) (hk : o + j.val = k.val) :
    Scalar.select (IntOp.cmpi CmpIPredicate.eq (BitVec.ofNat 32 r.val) 511#32)
      (A (ix2 520 j) * ((((Scalar.extui (Scalar.cmpi CmpIPredicate.slt (BitVec.ofNat 32 (t.val % 4)) 3#32) : BitVec 32).toInt : ℤ) : ℝ) : EReal))
      (A (ix2 ⟨(r.val + 512 - 511) % 512, by omega⟩ j)) = (inp m c).after (pos t r) k := by
  have hN := lt_of_lt_of_eq t.isLt n_points
  rw [last_row, select_if, has_next ⟨t.val % 4, by omega⟩]
  unfold Inp.after
  by_cases h0 : r.val = 511
  · rw [if_pos h0]
    by_cases hq : t.val % 4 = 3
    · rw [if_pos hq, dif_pos (by dsimp only; omega), mul_zero]
    · rw [if_neg hq, dif_neg (by dsimp only; omega), mul_one, hA.next (by omega) j k hk]
      exact congrArg (fun x => (inp m c).proj x k) (Fin.ext (by dsimp only; omega))
  · rw [if_neg h0, dif_neg (by dsimp only; omega)]
    refine Eq.trans (congrArg (fun x => A (ix2 x j)) (Fin.ext (by dsimp only; omega))) ((hA.own ⟨r.val + 1, by omega⟩ j k hk).trans ?_)
    exact congrArg (fun x => (inp m c).proj x k) (Fin.ext (by dsimp only; omega))

/-- A mixed column, as the kernel puts it together. -/
theorem mix_form (o : ℕ) (A : FVec Ideal S528x512 .f32) (hA : Wide m c t o A) (r : Fin 512) (j : Fin 512) (k : Fin 1664) (hk : o + j.val = k.val) (p n : EReal)
    (hp : p = (inp m c).mp k) (hn : n = (inp m c).mn k) :
    A (ix2 ⟨r.val, by omega⟩ j)
      + p * (Scalar.select (IntOp.cmpi CmpIPredicate.eq (BitVec.ofNat 32 r.val) 0#32)
        (A (ix2 519 j) * ((((Scalar.extui (Scalar.cmpi CmpIPredicate.sgt (BitVec.ofNat 32 (t.val % 4)) 0#32) : BitVec 32).toInt : ℤ) : ℝ) : EReal))
        (A (ix2 ⟨(r.val + 512 - 1) % 512, by omega⟩ j)) - A (ix2 ⟨r.val, by omega⟩ j))
      + n * (Scalar.select (IntOp.cmpi CmpIPredicate.eq (BitVec.ofNat 32 r.val) 511#32)
        (A (ix2 520 j) * ((((Scalar.extui (Scalar.cmpi CmpIPredicate.slt (BitVec.ofNat 32 (t.val % 4)) 3#32) : BitVec 32).toInt : ℤ) : ℝ) : EReal))
        (A (ix2 ⟨(r.val + 512 - 511) % 512, by omega⟩ j)) - A (ix2 ⟨r.val, by omega⟩ j))
      = (inp m c).shifted (pos t r) k := by
  rw [before_form m c t o A hA r j ⟨k.val, by omega⟩ hk, after_form m c t o A hA r j ⟨k.val, by omega⟩ hk, hp, hn]
  rw [show A (ix2 ⟨r.val, by omega⟩ j) = (inp m c).proj (pos t r) ⟨k.val, by omega⟩ from hA.own r j _ hk]
  rfl

/-! ## The rotation -/

/-- A lane is in its head's first half or not. -/
theorem first_half : ∀ l : Fin 128, IntOp.cmpi CmpIPredicate.eq (IntOp.andi (BitVec.ofNat 32 l.val) 32#32) 0#32 = if l.val % 64 < 32 then 1#1 else 0#1 := by decide +kernel

/-- A rotated column, as the kernel puts it together: the block's columns from `p` on are 128 of a head group's 512, the `q`-th on from column `b`. -/
theorem rot_form (o b p q : ℕ) (B : Fin 512 → Fin 512 → EReal) (hB : Flat m c t o B) (hq : q + 128 ≤ 512) (hq64 : q % 64 = 0) (hb : b + 512 ≤ 4224) (he : o + p = b + q)
    (r : Fin 512) (l : Fin 128) (j0 j1 j2 : Fin 512) (h0 : j0.val = p + l.val) (h1 : j1.val = p + (l.val + 128 - 96) % 128) (h2 : j2.val = p + (l.val + 128 - 32) % 128) :
    B r j0 * iblk m c 5 t (ix2 r l)
      + Scalar.select (IntOp.cmpi CmpIPredicate.eq (IntOp.andi (BitVec.ofNat 32 l.val) 32#32) 0#32) (B r j1) (B r j2) * iblk m c 6 t (ix2 r l)
      = rope (fun x => (inp m c).proj (pos t r) ⟨b + x.val, by omega⟩) ⟨(pos t r).val % 2048, by omega⟩ ⟨q + l.val, by omega⟩ := by
  have hN := lt_of_lt_of_eq t.isLt n_points
  have hs : seqPos t r = ⟨(pos t r).val % 2048, by omega⟩ := Fin.ext (by dsimp only; omega)
  rw [first_half, select_if, read5, read6, hs]
  generalize (⟨(pos t r).val % 2048, by omega⟩ : Fin 2048) = s
  rw [hB r j0 ⟨b + (q + l.val), by omega⟩ (by dsimp only; omega)]
  by_cases hl : l.val % 64 < 32
  · rw [if_pos hl, if_pos hl, hB r j1 ⟨b + (q + l.val + 32), by omega⟩ (by dsimp only; omega), mul_neg, ← sub_eq_add_neg]
    refine Eq.trans ?_ (dif_pos (show (q + l.val) % 64 < 32 by omega)).symm
    rw [show (⟨l.val % 32, by omega⟩ : Fin 32) = ⟨(q + l.val) % 64, by omega⟩ from Fin.ext (by dsimp only; omega)]
  · rw [if_neg hl, if_neg hl, hB r j2 ⟨b + (q + l.val - 32), by omega⟩ (by dsimp only; omega), add_comm]
    refine Eq.trans ?_ (dif_neg (show ¬ (q + l.val) % 64 < 32 by omega)).symm
    rw [show (⟨l.val % 32, by omega⟩ : Fin 32) = ⟨(q + l.val) % 64 - 32, by omega⟩ from Fin.ext (by dsimp only; omega)]

end Cert.Front

end
-- ==== Proof.EvenTiles.lean ====
module
public import Idealize.ShloMosaic.Lib.Pipeline.ReadBack
public import proofs.«01_k».proof.Proof.EvenPay

/-! The 128-lane tiles of queries, keys and values the front projection's kernel writes to its scratch buffers, and how it reads them back with a stride. -/

@[expose] public section

set_option maxRecDepth 100000
set_option maxHeartbeats 2000000

noncomputable section

open Cert.EvenIdeal Cert.EvenIdeal.Gen Idealize.ShloMosaic Idealize.ShloMosaic.TcCoe Idealize.SL.Sem

namespace Cert.Front

variable (m : (ℓ : Loc nD τ sig) → Buf (Elt Ideal) ℓ) (c : Dev nD) (t : Fin cfg0.N)

/-- A point's 128 lanes of an array of 512 lanes, from lane `q` on. -/
def tile (f : Fin 65536 → Fin 512 → EReal) (q : ℕ) (hq : q + 128 ≤ 512) : Vec Ideal S512x128 .f32 := fun i =>
  f (pos t (i 0)) ⟨q + (i 1).val, by have : (i 1).val < 128 := (i 1).isLt; omega⟩

/-- The point's normed rows. -/
abbrev rows : FVec Ideal S512x1024 .bf16 := k0_pay1 (iblk m c 0 t) (iblk m c 3 t)
/-- The cosines of the point's positions. -/
abbrev cosines : FVec Ideal S512x128 .f32 := k0_pay2 (iblk m c 5 t)
/-- The sines of the point's positions. -/
abbrev sines : FVec Ideal S512x128 .f32 := k0_pay3 (iblk m c 6 t)

/-- The queries' lanes 0 to 127. -/
theorem query0 : k0_pay78 (k0_pay76 (rows m c t) (cosines m c t) (sines m c t) (cols m c t 2048 inb_S1024x4224_S1024x512_0_2048)) k0_pay77
    = tile t (inp m c).query 0 (by decide) := by
  funext i
  idx_vars i
  pointwise [k0_pay78, k0_pay76, k0_pay77, k0_pay2, k0_pay3]
  refine congrArg (fun x : EReal => x * Ideal.ofBits .f32 1040187392#32)
    (rot_form m c t 2048 2176 128 0 _ (flat4 m c t) (by omega) (by omega) (by omega) (by omega) i0 i1 _ _ _ ?_ ?_ ?_) <;> (dsimp only; try omega)
/-- The queries' lanes 128 to 255. -/
theorem query1 : k0_pay106 (cosines m c t) (sines m c t) (k0_pay74 (rows m c t) (cols m c t 2048 inb_S1024x4224_S1024x512_0_2048))
    = tile t (inp m c).query 128 (by decide) := by
  funext i
  idx_vars i
  pointwise [k0_pay106, k0_pay2, k0_pay3]
  refine congrArg (fun x : EReal => x * Ideal.ofBits .f32 1040187392#32)
    (rot_form m c t 2048 2176 256 128 _ (flat4 m c t) (by omega) (by omega) (by omega) (by omega) i0 i1 _ _ _ ?_ ?_ ?_) <;> (dsimp only; try omega)
/-- The queries' lanes 256 to 383. -/
theorem query2 : k0_pay136 (cosines m c t) (sines m c t) (k0_pay74 (rows m c t) (cols m c t 2048 inb_S1024x4224_S1024x512_0_2048))
    = tile t (inp m c).query 256 (by decide) := by
  funext i
  idx_vars i
  pointwise [k0_pay136, k0_pay2, k0_pay3]
  refine congrArg (fun x : EReal => x * Ideal.ofBits .f32 1040187392#32)
    (rot_form m c t 2048 2176 384 256 _ (flat4 m c t) (by omega) (by omega) (by omega) (by omega) i0 i1 _ _ _ ?_ ?_ ?_) <;> (dsimp only; try omega)
/-- The queries' lanes 384 to 511. -/
theorem query3 : k0_pay162 (rows m c t) (cosines m c t) (sines m c t) (cols m c t 2560 inb_S1024x4224_S1024x512_0_2560)
    = tile t (inp m c).query 384 (by decide) := by
  funext i
  idx_vars i
  pointwise [k0_pay162, k0_pay2, k0_pay3]
  refine congrArg (fun x : EReal => x * Ideal.ofBits .f32 1040187392#32)
    (rot_form m c t 2560 2176 0 384 _ (flat5 m c t) (by omega) (by omega) (by omega) (by omega) i0 i1 _ _ _ ?_ ?_ ?_) <;> (dsimp only; try omega)

/-- The keys' lanes 0 to 127. -/
theorem key0 : k0_pay192 (cosines m c t) (sines m c t) (k0_pay161 (rows m c t) (cols m c t 2560 inb_S1024x4224_S1024x512_0_2560))
    = tile t (inp m c).key 0 (by decide) := by
  funext i
  idx_vars i
  pointwise [k0_pay192, k0_pay191, k0_pay2, k0_pay3]
  refine rot_form m c t 2560 2688 128 0 _ (flat5 m c t) (by omega) (by omega) (by omega) (by omega) i0 i1 _ _ _ ?_ ?_ ?_ <;> (dsimp only; try omega)
/-- The keys' lanes 128 to 255. -/
theorem key1 : k0_pay221 (cosines m c t) (sines m c t) (k0_pay219 (k0_pay161 (rows m c t) (cols m c t 2560 inb_S1024x4224_S1024x512_0_2560)))
    = tile t (inp m c).key 128 (by decide) := by
  funext i
  idx_vars i
  pointwise [k0_pay221, k0_pay220, k0_pay219, k0_pay2, k0_pay3]
  refine rot_form m c t 2560 2688 256 128 _ (flat5 m c t) (by omega) (by omega) (by omega) (by omega) i0 i1 _ _ _ ?_ ?_ ?_ <;> (dsimp only; try omega)
/-- The keys' lanes 256 to 383. -/
theorem key2 : k0_pay254 (sines m c t) (k0_pay250 (k0_pay161 (rows m c t) (cols m c t 2560 inb_S1024x4224_S1024x512_0_2560)))
      (k0_pay251 (cosines m c t) (k0_pay161 (rows m c t) (cols m c t 2560 inb_S1024x4224_S1024x512_0_2560))) k0_pay252
    = tile t (inp m c).key 256 (by decide) := by
  funext i
  idx_vars i
  pointwise [k0_pay254, k0_pay253, k0_pay252, k0_pay251, k0_pay250, k0_pay2, k0_pay3]
  refine rot_form m c t 2560 2688 384 256 _ (flat5 m c t) (by omega) (by omega) (by omega) (by omega) i0 i1 _ _ _ ?_ ?_ ?_ <;> (dsimp only; try omega)
/-- The keys' lanes 384 to 511. -/
theorem key3 : k0_pay285 (sines m c t) (k0_pay281 (rows m c t) (cols m c t 3072 inb_S1024x4224_S1024x512_0_3072))
      (k0_pay282 (rows m c t) (cosines m c t) (cols m c t 3072 inb_S1024x4224_S1024x512_0_3072)) (iota Kind.tc S512x128 32 [1] iota_S512x128_d1_w32) k0_pay283
    = tile t (inp m c).key 384 (by decide) := by
  funext i
  idx_vars i
  pointwise [k0_pay285, k0_pay284, k0_pay283, k0_pay282, k0_pay281, k0_pay2, k0_pay3]
  refine rot_form m c t 3072 2688 0 384 _ (flat6 m c t) (by omega) (by omega) (by omega) (by omega) i0 i1 _ _ _ ?_ ?_ ?_ <;> (dsimp only; try omega)

/-- The values' lanes 0 to 127. -/
theorem value0 : k0_pay315 (k0_pay280 (rows m c t) (cols m c t 3072 inb_S1024x4224_S1024x512_0_3072)) = tile t (inp m c).value 0 (by decide) := by
  funext i
  idx_vars i
  pointwise [k0_pay315, k0_pay314]
  exact flat6 m c t i0 _ ⟨3200 + (0 + i1.val), by omega⟩ (by dsimp only; omega)
/-- The values' lanes 128 to 255. -/
theorem value1 : k0_pay346 (k0_pay280 (rows m c t) (cols m c t 3072 inb_S1024x4224_S1024x512_0_3072)) = tile t (inp m c).value 128 (by decide) := by
  funext i
  idx_vars i
  pointwise [k0_pay346, k0_pay345]
  exact flat6 m c t i0 _ ⟨3200 + (128 + i1.val), by omega⟩ (by dsimp only; omega)
/-- The values' lanes 256 to 383. -/
theorem value2 : k0_pay373 (k0_pay280 (rows m c t) (cols m c t 3072 inb_S1024x4224_S1024x512_0_3072)) = tile t (inp m c).value 256 (by decide) := by
  funext i
  idx_vars i
  pointwise [k0_pay373, k0_pay372]
  exact flat6 m c t i0 _ ⟨3200 + (256 + i1.val), by omega⟩ (by dsimp only; omega)
/-- The values' lanes 384 to 511. -/
theorem value3 : k0_pay404 (k0_pay403 (rows m c t) (cols m c t 3584 inb_S1024x4224_S1024x512_0_3584)) = tile t (inp m c).value 384 (by decide) := by
  funext i
  idx_vars i
  pointwise [k0_pay404, k0_pay403]
  exact flat7 m c t i0 _ ⟨3200 + (384 + i1.val), by omega⟩ (by dsimp only; omega)

/-- What a load reads of a buffer that one store filled. -/
theorem read_whole {e : EltTy} {s : Shape} {off : Fin s.rank → ℕ} {κ : Kind} {sp : Space} (v : View sig κ sp s e) (h : off = fun _ => 0)
    (inb : ∀ a, off a + s.size a ≤ s.size a) (X : s.Idx → Elt Ideal e) (B : LoadRect s) :
    v.readCov [(⟨Rect.unit off s.size inb, X⟩ : View.Piece (Elt Ideal) s e)] B = fun j => X (B.idx j) := by
  rw [View.readCov_eq_canon', View.canon_unit_zero h]

/-- A cast to the same shape. -/
theorem cast_same (x : FVec Ideal S128x128 .f32) (h) : shapeCast S128x128 x h = x := by
  funext i
  idx_vars i
  pointwise
/-- A cast to the same shape. -/
theorem cast_row (x : FVec Ideal S512x128 .f32) (h) : shapeCast S512x128 x h = x := by
  funext i
  idx_vars i
  pointwise
/-- The keys' lanes 0 to 127, before they are written. -/
theorem key0' : k0_pay191 (cosines m c t) (sines m c t) (k0_pay161 (rows m c t) (cols m c t 2560 inb_S1024x4224_S1024x512_0_2560))
    = tile t (inp m c).key 0 (by decide) := (cast_row _ _).symm.trans (key0 m c t)
/-- The keys' lanes 128 to 255, before they are written. -/
theorem key1' : k0_pay220 (cosines m c t) (sines m c t) (k0_pay219 (k0_pay161 (rows m c t) (cols m c t 2560 inb_S1024x4224_S1024x512_0_2560)))
    = tile t (inp m c).key 128 (by decide) := (cast_row _ _).symm.trans (key1 m c t)
/-- The keys' lanes 256 to 383, before they are written. -/
theorem key2' : k0_pay253 (sines m c t) (k0_pay250 (k0_pay161 (rows m c t) (cols m c t 2560 inb_S1024x4224_S1024x512_0_2560)))
      (k0_pay251 (cosines m c t) (k0_pay161 (rows m c t) (cols m c t 2560 inb_S1024x4224_S1024x512_0_2560))) k0_pay252
    = tile t (inp m c).key 256 (by decide) := (cast_row _ _).symm.trans (key2 m c t)
/-- The keys' lanes 384 to 511, before they are written. -/
theorem key3' : k0_pay284 (sines m c t) (k0_pay281 (rows m c t) (cols m c t 3072 inb_S1024x4224_S1024x512_0_3072))
      (k0_pay282 (rows m c t) (cosines m c t) (cols m c t 3072 inb_S1024x4224_S1024x512_0_3072)) (iota Kind.tc S512x128 32 [1] iota_S512x128_d1_w32) k0_pay283
    = tile t (inp m c).key 384 (by decide) := (cast_row _ _).symm.trans (key3 m c t)
/-- The values' lanes 0 to 127, before they are written. -/
theorem value0' : k0_pay314 (k0_pay280 (rows m c t) (cols m c t 3072 inb_S1024x4224_S1024x512_0_3072)) = tile t (inp m c).value 0 (by decide) := (cast_row _ _).symm.trans (value0 m c t)
/-- The values' lanes 128 to 255, before they are written. -/
theorem value1' : k0_pay345 (k0_pay280 (rows m c t) (cols m c t 3072 inb_S1024x4224_S1024x512_0_3072)) = tile t (inp m c).value 128 (by decide) := (cast_row _ _).symm.trans (value1 m c t)
/-- The values' lanes 256 to 383, before they are written. -/
theorem value2' : k0_pay372 (k0_pay280 (rows m c t) (cols m c t 3072 inb_S1024x4224_S1024x512_0_3072)) = tile t (inp m c).value 256 (by decide) := (cast_row _ _).symm.trans (value2 m c t)
/-- The values' lanes 384 to 511, before they are written. -/
theorem value3' : k0_pay403 (rows m c t) (cols m c t 3584 inb_S1024x4224_S1024x512_0_3584) = tile t (inp m c).value 384 (by decide) := (cast_row _ _).symm.trans (value3 m c t)

/-- A load of every fourth row from row `a` on. -/
abbrev every4 (a n : ℕ) (h : ∀ x : Fin 2, (![n, 128] : Fin 2 → ℕ) x = 0 ∨ (![a, 0] : Fin 2 → ℕ) x + (![4, 1] : Fin 2 → ℕ) x * ((![n, 128] : Fin 2 → ℕ) x - 1) < S512x128.size x) :
    LoadRect S512x128 :=
  { off := ![a, 0], size := ![n, 128], stride := ![4, 1], inb := h }

/-- Where such a load's rows lie. -/
theorem every4_idx (a n : ℕ) (h) (i : Fin n) (l : Fin 128) (k : Fin 512) (e : k.val = a + 4 * i.val) :
    (every4 a n h).idx (ix2 (n0 := n) (n1 := 128) i l) = ix2 k l := by
  funext x
  match x with
  | 0 => exact Fin.ext e.symm
  | 1 => exact Fin.ext (by rw [LoadRect.idx_apply]; show 0 + 1 * l.val = l.val; omega)

/-- A buffer's rows gathered by their residue of four. -/
def fold (X : Vec Ideal S512x128 .f32) : Vec Ideal S512x128 .f32 := fun i =>
  X (ix2 (n0 := 512) (n1 := 128) ⟨(i 0).val % 128 * 4 + (i 0).val / 128, by have : (i 0).val < 512 := (i 0).isLt; omega⟩ (i 1))

/-- A buffer's elements at the places of a load. -/
def part (X : Vec Ideal S512x128 .f32) (B : LoadRect S512x128) : B.shape.Idx → Elt Ideal .f32 := fun j => X (B.idx j)

/-- What a load reads of a tile that one store wrote. -/
theorem read_tile {κ : Kind} {sp : Space} (v : View sig κ sp S512x128 .f32) (inb) (X : Vec Ideal S512x128 .f32) (B : LoadRect S512x128) :
    v.readCov [(⟨Rect.unit (s := S512x128) ![0, 0] ![512, 128] inb, X⟩ : View.Piece (Elt Ideal) S512x128 .f32)] B = part X B :=
  read_whole v (funext fun a => by match a with | 0 => rfl | 1 => rfl) inb X B

/-- The rows of one residue are a piece of the gathered buffer. -/
theorem fold_piece (k n : ℕ) (hk : k < 4) (hn : n = 128 * k) (i b) (X : Vec Ideal S512x128 .f32) (x : (Rect.unit (s := S512x128) ![n, 0] ![128, 128] i).shape.Idx) :
    part X { off := ![k, 0], size := ![128, 128], stride := ![4, 1], inb := b } x = fold X ((Rect.unit (s := S512x128) ![n, 0] ![128, 128] i).emb x) := by
  subst hn
  idx_vars x
  have hx : x0.val < 128 := x0.isLt
  refine congrArg X ((every4_idx k 128 b x0 x1 ⟨k + 4 * x0.val, by omega⟩ rfl).trans ?_)
  refine congrArg₂ (ix2 (n0 := 512) (n1 := 128)) (Fin.ext ?_) (Fin.ext ?_)
  · show k + 4 * x0.val = (128 * k + 1 * x0.val) % 128 * 4 + (128 * k + 1 * x0.val) / 128
    omega
  · show x1.val = 0 + 1 * x1.val
    omega

/-- What a load reads of a buffer the four residues were written to, whatever it held before. -/
theorem read_fold {κ : Kind} {sp : Space} (v : View sig κ sp S512x128 .f32) (i0 i1 i2 i3 b0 b1 b2 b3) (X : Vec Ideal S512x128 .f32) (B : LoadRect S512x128)
    (L : List (View.Piece (Elt Ideal) S512x128 .f32)) :
    v.readCov ((⟨Rect.unit (s := S512x128) ![384, 0] ![128, 128] i3, part X { off := ![3, 0], size := ![128, 128], stride := ![4, 1], inb := b3 }⟩ : View.Piece (Elt Ideal) S512x128 .f32) ::
      ⟨Rect.unit (s := S512x128) ![256, 0] ![128, 128] i2, part X { off := ![2, 0], size := ![128, 128], stride := ![4, 1], inb := b2 }⟩ ::
      ⟨Rect.unit (s := S512x128) ![128, 0] ![128, 128] i1, part X { off := ![1, 0], size := ![128, 128], stride := ![4, 1], inb := b1 }⟩ ::
      ⟨Rect.unit (s := S512x128) ![0, 0] ![128, 128] i0, part X { off := ![0, 0], size := ![128, 128], stride := ![4, 1], inb := b0 }⟩ :: L) B = part (fold X) B := by
  rw [View.readCov_eq_canon']
  funext j
  exact View.canon_append_of_piecesOf (fold X) L [⟨Rect.unit (s := S512x128) ![384, 0] ![128, 128] i3, part X { off := ![3, 0], size := ![128, 128], stride := ![4, 1], inb := b3 }⟩,
      ⟨Rect.unit (s := S512x128) ![256, 0] ![128, 128] i2, part X { off := ![2, 0], size := ![128, 128], stride := ![4, 1], inb := b2 }⟩,
      ⟨Rect.unit (s := S512x128) ![128, 0] ![128, 128] i1, part X { off := ![1, 0], size := ![128, 128], stride := ![4, 1], inb := b1 }⟩,
      ⟨Rect.unit (s := S512x128) ![0, 0] ![128, 128] i0, part X { off := ![0, 0], size := ![128, 128], stride := ![4, 1], inb := b0 }⟩]
    ⟨fold_piece 3 384 (by decide) rfl i3 b3 X, fold_piece 2 256 (by decide) rfl i2 b2 X, fold_piece 1 128 (by decide) rfl i1 b1 X, fold_piece 0 0 (by decide) rfl i0 b0 X, trivial⟩
    (B.idx j) (View.cover_of_tiledL _ ![128, 128] rfl _)

end Cert.Front

end
-- ==== Proof.EvenOut.lean ====
module
public import proofs.«01_k».proof.Proof.Gen.EvenIdeal.Value
public import proofs.«01_k».proof.Proof.EvenTiles

/-! What the front projection's kernel leaves in its results. -/

@[expose] public section

set_option maxRecDepth 100000
set_option maxHeartbeats 4000000

noncomputable section

open Cert.EvenIdeal Cert.EvenIdeal.Gen Idealize.ShloMosaic Idealize.ShloMosaic.TcCoe Idealize.SL.Sem

namespace Cert.Front

variable (m : (ℓ : Loc nD τ sig) → Buf (Elt Ideal) ℓ) (c : Dev nD)

/-- The rows of the result whose block is numbered 9. -/
theorem idx9 : ∀ t : Fin cfg0.N, win0_9.index t = ![t.val, 0] := (by decide +kernel : ∀ t : Fin grid0.N, win0_9.index t = ![t.val, 0])
/-- The rows of the result whose block is numbered 10. -/
theorem idx10 : ∀ t : Fin cfg0.N, win0_10.index t = ![t.val, 0] := (by decide +kernel : ∀ t : Fin grid0.N, win0_10.index t = ![t.val, 0])
/-- The rows of the result whose block is numbered 11. -/
theorem idx11 : ∀ t : Fin cfg0.N, win0_11.index t = ![t.val, 0] := (by decide +kernel : ∀ t : Fin grid0.N, win0_11.index t = ![t.val, 0])
/-- The sequence and the rows of the result whose block is numbered 12. -/
theorem idx12 : ∀ t : Fin cfg0.N, win0_12.index t = ![t.val / 4, 0, t.val % 4, 0] := (by decide +kernel : ∀ t : Fin grid0.N, win0_12.index t = ![t.val / 4, 0, t.val % 4, 0])
/-- The sequence and the rows of the result whose block is numbered 13. -/
theorem idx13 : ∀ t : Fin cfg0.N, win0_13.index t = ![t.val / 4, 0, t.val % 4, 0] := (by decide +kernel : ∀ t : Fin grid0.N, win0_13.index t = ![t.val / 4, 0, t.val % 4, 0])
/-- The sequence and the rows of the result whose block is numbered 14. -/
theorem idx14 : ∀ t : Fin cfg0.N, win0_14.index t = ![t.val / 4, 0, t.val % 4, 0] := (by decide +kernel : ∀ t : Fin grid0.N, win0_14.index t = ![t.val / 4, 0, t.val % 4, 0])
/-- The sequence and the rows of the result whose block is numbered 15. -/
theorem idx15 : ∀ t : Fin cfg0.N, win0_15.index t = ![t.val / 4, 0, t.val % 4, 0] := (by decide +kernel : ∀ t : Fin grid0.N, win0_15.index t = ![t.val / 4, 0, t.val % 4, 0])
/-- The sequence and the rows of the result whose block is numbered 16. -/
theorem idx16 : ∀ t : Fin cfg0.N, win0_16.index t = ![t.val / 4, 0, t.val % 4, 0] := (by decide +kernel : ∀ t : Fin grid0.N, win0_16.index t = ![t.val / 4, 0, t.val % 4, 0])
/-- The sequence and the rows of the result whose block is numbered 17. -/
theorem idx17 : ∀ t : Fin cfg0.N, win0_17.index t = ![t.val / 4, 0, t.val % 4, 0] := (by decide +kernel : ∀ t : Fin grid0.N, win0_17.index t = ![t.val / 4, 0, t.val % 4, 0])
/-- The sequence and the rows of the result whose block is numbered 18. -/
theorem idx18 : ∀ t : Fin cfg0.N, win0_18.index t = ![t.val / 4, 0, t.val % 4, 0] := (by decide +kernel : ∀ t : Fin grid0.N, win0_18.index t = ![t.val / 4, 0, t.val % 4, 0])
/-- The sequence and the rows of the result whose block is numbered 19. -/
theorem idx19 : ∀ t : Fin cfg0.N, win0_19.index t = ![t.val / 4, 0, t.val % 4, 0] := (by decide +kernel : ∀ t : Fin grid0.N, win0_19.index t = ![t.val / 4, 0, t.val % 4, 0])

/-- The mixed columns. -/
def out9 : Vec Ideal S65536x1664 .f32 := fun i => (inp m c).shifted (i 0) (i 1)
/-- The first gate. -/
def out10 : Vec Ideal S65536x512 .f32 := fun i => (inp m c).proj (i 0) ⟨1664 + (i 1).val, by have : (i 1).val < 512 := (i 1).isLt; omega⟩
/-- The second gate. -/
def out11 : Vec Ideal S65536x512 .f32 := fun i => (inp m c).proj (i 0) ⟨3712 + (i 1).val, by have : (i 1).val < 512 := (i 1).isLt; omega⟩

/-- Rows as sequences. -/
def by1 (f : Fin 65536 → Fin 512 → EReal) : Vec Ideal S32x1x2048x512 .bf16 := fun i =>
  f ⟨(i 0).val * 2048 + (i 2).val, by have : (i 0).val < 32 := (i 0).isLt; have : (i 2).val < 2048 := (i 2).isLt; omega⟩ (i 3)
/-- Rows as sequences of every fourth position. -/
def by4 (f : Fin 65536 → Fin 512 → EReal) : Vec Ideal S32x4x512x512 .bf16 := fun i =>
  f ⟨(i 0).val * 2048 + (i 2).val * 4 + (i 1).val,
    by have : (i 0).val < 32 := (i 0).isLt; have : (i 1).val < 4 := (i 1).isLt; have : (i 2).val < 512 := (i 2).isLt; omega⟩ (i 3)
/-- Rows as sequences of every sixteenth position. -/
def by16 (f : Fin 65536 → Fin 512 → EReal) : Vec Ideal S32x16x128x512 .bf16 := fun i =>
  f ⟨(i 0).val * 2048 + (i 2).val * 16 + (i 1).val,
    by have : (i 0).val < 32 := (i 0).isLt; have : (i 1).val < 16 := (i 1).isLt; have : (i 2).val < 128 := (i 2).isLt; omega⟩ (i 3)

/-- The result whose block is numbered 12, at an index of a point's block. -/
theorem at12 (f : Fin 65536 → Fin 512 → EReal) (t : Fin cfg0.N) (y0 : Fin 1) (y1 : Fin 4) (y2 : Fin 128) (y3 : Fin 512) (r : Fin 512) (l : Fin 512)
    (hr : r.val = y2.val * 4 + y1.val) (hl : l.val = y3.val) :
    f (pos t r) l = by4 f (((View.whole main_v30_3).slice (win0_12.rect t)).emb (ix4 y0 y1 y2 y3)) :=
  congrArg₂ f (Fin.ext (by blk_simp [idx12 t]; (try dsimp only); omega)) (Fin.ext (by blk_simp [idx12 t]; (try dsimp only); omega))
/-- The result whose block is numbered 13, at an index of a point's block. -/
theorem at13 (f : Fin 65536 → Fin 512 → EReal) (t : Fin cfg0.N) (y0 : Fin 1) (y1 : Fin 16) (y2 : Fin 32) (y3 : Fin 512) (r : Fin 512) (l : Fin 512)
    (hr : r.val = y2.val * 16 + y1.val) (hl : l.val = y3.val) :
    f (pos t r) l = by16 f (((View.whole main_v30_4).slice (win0_13.rect t)).emb (ix4 y0 y1 y2 y3)) :=
  congrArg₂ f (Fin.ext (by blk_simp [idx13 t]; (try dsimp only); omega)) (Fin.ext (by blk_simp [idx13 t]; (try dsimp only); omega))
/-- The result whose block is numbered 14, at an index of a point's block. -/
theorem at14 (f : Fin 65536 → Fin 512 → EReal) (t : Fin cfg0.N) (y0 : Fin 1) (y1 : Fin 1) (y2 : Fin 512) (y3 : Fin 512) (r : Fin 512) (l : Fin 512)
    (hr : r.val = y2.val) (hl : l.val = y3.val) :
    f (pos t r) l = by1 f (((View.whole main_v30_5).slice (win0_14.rect t)).emb (ix4 y0 y1 y2 y3)) :=
  congrArg₂ f (Fin.ext (by blk_simp [idx14 t]; (try dsimp only); omega)) (Fin.ext (by blk_simp [idx14 t]; (try dsimp only); omega))
/-- The result whose block is numbered 15, at an index of a point's block. -/
theorem at15 (f : Fin 65536 → Fin 512 → EReal) (t : Fin cfg0.N) (y0 : Fin 1) (y1 : Fin 4) (y2 : Fin 128) (y3 : Fin 512) (r : Fin 512) (l : Fin 512)
    (hr : r.val = y2.val * 4 + y1.val) (hl : l.val = y3.val) :
    f (pos t r) l = by4 f (((View.whole main_v30_6).slice (win0_15.rect t)).emb (ix4 y0 y1 y2 y3)) :=
  congrArg₂ f (Fin.ext (by blk_simp [idx15 t]; (try dsimp only); omega)) (Fin.ext (by blk_simp [idx15 t]; (try dsimp only); omega))
/-- The result whose block is numbered 16, at an index of a point's block. -/
theorem at16 (f : Fin 65536 → Fin 512 → EReal) (t : Fin cfg0.N) (y0 : Fin 1) (y1 : Fin 16) (y2 : Fin 32) (y3 : Fin 512) (r : Fin 512) (l : Fin 512)
    (hr : r.val = y2.val * 16 + y1.val) (hl : l.val = y3.val) :
    f (pos t r) l = by16 f (((View.whole main_v30_7).slice (win0_16.rect t)).emb (ix4 y0 y1 y2 y3)) :=
  congrArg₂ f (Fin.ext (by blk_simp [idx16 t]; (try dsimp only); omega)) (Fin.ext (by blk_simp [idx16 t]; (try dsimp only); omega))
/-- The result whose block is numbered 17, at an index of a point's block. -/
theorem at17 (f : Fin 65536 → Fin 512 → EReal) (t : Fin cfg0.N) (y0 : Fin 1) (y1 : Fin 1) (y2 : Fin 512) (y3 : Fin 512) (r : Fin 512) (l : Fin 512)
    (hr : r.val = y2.val) (hl : l.val = y3.val) :
    f (pos t r) l = by1 f (((View.whole main_v30_8).slice (win0_17.rect t)).emb (ix4 y0 y1 y2 y3)) :=
  congrArg₂ f (Fin.ext (by blk_simp [idx17 t]; (try dsimp only); omega)) (Fin.ext (by blk_simp [idx17 t]; (try dsimp only); omega))
/-- The result whose block is numbered 18, at an index of a point's block. -/
theorem at18 (f : Fin 65536 → Fin 512 → EReal) (t : Fin cfg0.N) (y0 : Fin 1) (y1 : Fin 4) (y2 : Fin 128) (y3 : Fin 512) (r : Fin 512) (l : Fin 512)
    (hr : r.val = y2.val * 4 + y1.val) (hl : l.val = y3.val) :
    f (pos t r) l = by4 f (((View.whole main_v30_9).slice (win0_18.rect t)).emb (ix4 y0 y1 y2 y3)) :=
  congrArg₂ f (Fin.ext (by blk_simp [idx18 t]; (try dsimp only); omega)) (Fin.ext (by blk_simp [idx18 t]; (try dsimp only); omega))
/-- The result whose block is numbered 19, at an index of a point's block. -/
theorem at19 (f : Fin 65536 → Fin 512 → EReal) (t : Fin cfg0.N) (y0 : Fin 1) (y1 : Fin 16) (y2 : Fin 32) (y3 : Fin 512) (r : Fin 512) (l : Fin 512)
    (hr : r.val = y2.val * 16 + y1.val) (hl : l.val = y3.val) :
    f (pos t r) l = by16 f (((View.whole main_v30_10).slice (win0_19.rect t)).emb (ix4 y0 y1 y2 y3)) :=
  congrArg₂ f (Fin.ext (by blk_simp [idx19 t]; (try dsimp only); omega)) (Fin.ext (by blk_simp [idx19 t]; (try dsimp only); omega))
/-- The mixed columns at an index of a point's block. -/
theorem at9 (t : Fin cfg0.N) (y0 : Fin 512) (y1 : Fin 1664) (r : Fin 512) (l : Fin 1664) (hr : r.val = y0.val) (hl : l.val = y1.val) :
    (inp m c).shifted (pos t r) l = out9 m c (((View.whole main_v30_0).slice (win0_9.rect t)).emb (ix2 y0 y1)) :=
  congrArg₂ (inp m c).shifted (Fin.ext (by blk_simp [idx9 t]; (try dsimp only); omega)) (Fin.ext (by blk_simp [idx9 t]; (try dsimp only); omega))
/-- The first gate at an index of a point's block. -/
theorem at10 (t : Fin cfg0.N) (y0 : Fin 512) (y1 : Fin 512) (r : Fin 512) (l : Fin 4224) (hr : r.val = y0.val) (hl : l.val = 1664 + y1.val) :
    (inp m c).proj (pos t r) l = out10 m c (((View.whole main_v30_1).slice (win0_10.rect t)).emb (ix2 y0 y1)) :=
  congrArg₂ (inp m c).proj (Fin.ext (by blk_simp [idx10 t]; (try dsimp only); omega)) (Fin.ext (by blk_simp [idx10 t]; (try dsimp only); omega))
/-- The second gate at an index of a point's block. -/
theorem at11 (t : Fin cfg0.N) (y0 : Fin 512) (y1 : Fin 512) (r : Fin 512) (l : Fin 4224) (hr : r.val = y0.val) (hl : l.val = 3712 + y1.val) :
    (inp m c).proj (pos t r) l = out11 m c (((View.whole main_v30_2).slice (win0_11.rect t)).emb (ix2 y0 y1)) :=
  congrArg₂ (inp m c).proj (Fin.ext (by blk_simp [idx11 t]; (try dsimp only); omega)) (Fin.ext (by blk_simp [idx11 t]; (try dsimp only); omega))

end Cert.Front

end
-- ==== Proof.EvenMix.lean ====
module
public import proofs.«01_k».proof.Proof.EvenOut

/-! The front projection's mixed columns. -/

@[expose] public section

set_option maxRecDepth 100000
set_option maxHeartbeats 1000000

noncomputable section

open Cert.EvenIdeal Cert.EvenIdeal.Gen Idealize.ShloMosaic Idealize.ShloMosaic.TcCoe Idealize.SL.Sem

namespace Cert.Front

variable (m : (ℓ : Loc nD τ sig) → Buf (Elt Ideal) ℓ) (c : Dev nD)

attribute [local irreducible] k0_pay7 k0_pay10 k0_pay27 k0_pay47 k0_pay65 k0_pay74 k0_pay402 k0_pay433

/-- The mixed columns' result. -/
theorem result9 : (dats m 0 c).arrAt 9 cfg0.N = out9 m c := by
  refine (dats m 0 c).arrAt_eq_of_covers 9 _ (by decide +kernel) fun t hf y => ?_
  blk_simp
  rw [after0_9]
  unfold outsAt0; dsimp only
  frame_out
  simp only [phase t]
  canon_tiles z h
  all_goals
    idx_vars z
    idx_vars y
    pointwise [k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay66, k0_pay67, k0_pay68, k0_pay69, k0_pay70]
    first
      | (have w := wide0 m c t
         unfold cols at w
         generalize k0_pay10 (F := Ideal) _ _ _ _ _ = A at w ⊢
         refine Eq.trans (mix_form m c t 0 A w z0 _ _ ?_ _ _ (read7 m c t _) (read8 m c t _)) (at9 m c t y0 y1 _ _ h0.symm ?_) <;> (try dsimp only) <;> omega)
      | (have w := wide1 m c t
         unfold halo cols at w
         generalize k0_pay27 (F := Ideal) _ _ = A at w ⊢
         refine Eq.trans (mix_form m c t 512 A w z0 _ _ ?_ _ _ (read7 m c t _) (read8 m c t _)) (at9 m c t y0 y1 _ _ h0.symm ?_) <;> (try dsimp only) <;> omega)
      | (have w := wide2 m c t
         unfold halo cols at w
         generalize k0_pay47 (F := Ideal) _ _ = A at w ⊢
         refine Eq.trans (mix_form m c t 1024 A w z0 _ _ ?_ _ _ (read7 m c t _) (read8 m c t _)) (at9 m c t y0 y1 _ _ h0.symm ?_) <;> (try dsimp only) <;> omega)
      | (have w := wide3 m c t
         unfold halo cols at w
         generalize k0_pay65 (F := Ideal) _ _ = A at w ⊢
         refine Eq.trans (mix_form m c t 1536 A w z0 _ _ ?_ _ _ (read7 m c t _) (read8 m c t _)) (at9 m c t y0 y1 _ _ h0.symm ?_) <;> (try dsimp only) <;> omega)

end Cert.Front

end
-- ==== Proof.EvenFlat.lean ====
module
public import proofs.«01_k».proof.Proof.EvenOut

/-! The front projection's results that are not rotated. -/

@[expose] public section

set_option maxRecDepth 100000
set_option maxHeartbeats 4000000

noncomputable section

open Cert.EvenIdeal Cert.EvenIdeal.Gen Idealize.ShloMosaic Idealize.ShloMosaic.TcCoe Idealize.SL.Sem

namespace Cert.Front

variable (m : (ℓ : Loc nD τ sig) → Buf (Elt Ideal) ℓ) (c : Dev nD)

attribute [local irreducible] k0_pay65 k0_pay74 k0_pay402 k0_pay433

/-- The first gate's result. -/
theorem result10 : (dats m 0 c).arrAt 10 cfg0.N = out10 m c := by
  refine (dats m 0 c).arrAt_eq_of_covers 10 _ (by decide +kernel) fun t hf y => ?_
  blk_simp
  rw [after0_10]
  frame_out
  canon_tiles z h
  all_goals
    idx_vars z
    idx_vars y
    pointwise [k0_pay71, k0_pay72, k0_pay73, k0_pay75]
    first
      | exact ((wide3 m c t).own z0 _ ⟨1664 + y1.val, by omega⟩ (by (try dsimp only); omega)).trans (at10 m c t y0 y1 _ _ h0.symm rfl)
      | exact (flat4 m c t z0 _ ⟨1664 + y1.val, by omega⟩ (by (try dsimp only); omega)).trans (at10 m c t y0 y1 _ _ h0.symm rfl)

/-- The second gate's result. -/
theorem result11 : (dats m 0 c).arrAt 11 cfg0.N = out11 m c := by
  refine (dats m 0 c).arrAt_eq_of_covers 11 _ (by decide +kernel) fun t hf y => ?_
  blk_simp
  rw [after0_11]
  frame_out
  canon_tiles z h
  all_goals
    idx_vars z
    idx_vars y
    pointwise [k0_pay430, k0_pay431, k0_pay432]
    first
      | exact (flat7 m c t z0 _ ⟨3712 + y1.val, by omega⟩ (by (try dsimp only); omega)).trans (at11 m c t y0 y1 _ _ h0.symm rfl)
      | exact (flat8 m c t z0 _ ⟨3712 + y1.val, by omega⟩ (by (try dsimp only); omega)).trans (at11 m c t y0 y1 _ _ h0.symm rfl)

end Cert.Front

end
-- ==== Proof.EvenQuery.lean ====
module
public import proofs.«01_k».proof.Proof.EvenOut

/-! The front projection's queries. -/

@[expose] public section

set_option maxRecDepth 100000
set_option maxHeartbeats 4000000

noncomputable section

open Cert.EvenIdeal Cert.EvenIdeal.Gen Idealize.ShloMosaic Idealize.ShloMosaic.TcCoe Idealize.SL.Sem

namespace Cert.Front

variable (m : (ℓ : Loc nD τ sig) → Buf (Elt Ideal) ℓ) (c : Dev nD)

/-- The queries of every fourth position. -/
theorem result12 : (dats m 0 c).arrAt 12 cfg0.N = by4 (inp m c).query := by
  refine (dats m 0 c).arrAt_eq_of_covers 12 _ (by decide +kernel) fun t hf y => ?_
  blk_simp
  rw [after0_12]
  frame_out
  simp only [query0 m c t, query1 m c t, query2 m c t, query3 m c t, read_tile, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, cast_same, read_fold]
  canon_tiles z h
  all_goals
    idx_vars z
    idx_vars y
    pointwise [part, fold, tile]
    exact at12 (inp m c).query t y0 y1 y2 y3 _ _ (by dsimp only; omega) (by dsimp only; omega)

/-- The queries of every sixteenth position. -/
theorem result13 : (dats m 0 c).arrAt 13 cfg0.N = by16 (inp m c).query := by
  refine (dats m 0 c).arrAt_eq_of_covers 13 _ (by decide +kernel) fun t hf y => ?_
  blk_simp
  rw [after0_13]
  frame_out
  simp only [query0 m c t, query1 m c t, query2 m c t, query3 m c t, read_tile, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, cast_same, read_fold]
  canon_tiles z h
  all_goals
    idx_vars z
    idx_vars y
    pointwise [part, fold, tile]
    exact at13 (inp m c).query t y0 y1 y2 y3 _ _ (by dsimp only; omega) (by dsimp only; omega)

end Cert.Front

end
-- ==== Proof.EvenKey.lean ====
module
public import proofs.«01_k».proof.Proof.EvenOut

/-! The front projection's keys. -/

@[expose] public section

set_option maxRecDepth 100000
set_option maxHeartbeats 4000000

noncomputable section

open Cert.EvenIdeal Cert.EvenIdeal.Gen Idealize.ShloMosaic Idealize.ShloMosaic.TcCoe Idealize.SL.Sem

namespace Cert.Front

variable (m : (ℓ : Loc nD τ sig) → Buf (Elt Ideal) ℓ) (c : Dev nD)

/-- The keys. -/
theorem result14 : (dats m 0 c).arrAt 14 cfg0.N = by1 (inp m c).key := by
  refine (dats m 0 c).arrAt_eq_of_covers 14 _ (by decide +kernel) fun t hf y => ?_
  blk_simp
  rw [after0_14]
  frame_out
  simp only [k0_pay193, k0_pay222, k0_pay255, k0_pay286, key0' m c t, key1' m c t, key2' m c t, key3' m c t]
  canon_tiles z h
  all_goals
    idx_vars z
    idx_vars y
    pointwise [tile]
    exact at14 (inp m c).key t y0 y1 y2 y3 _ _ (by (try dsimp only); omega) (by (try dsimp only); omega)

/-- The keys of every fourth position. -/
theorem result15 : (dats m 0 c).arrAt 15 cfg0.N = by4 (inp m c).key := by
  refine (dats m 0 c).arrAt_eq_of_covers 15 _ (by decide +kernel) fun t hf y => ?_
  blk_simp
  rw [after0_15]
  frame_out
  simp only [key0 m c t, key1 m c t, key2 m c t, key3 m c t, read_tile, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, cast_same, read_fold]
  canon_tiles z h
  all_goals
    idx_vars z
    idx_vars y
    pointwise [part, fold, tile]
    exact at15 (inp m c).key t y0 y1 y2 y3 _ _ (by dsimp only; omega) (by dsimp only; omega)

/-- The keys of every sixteenth position. -/
theorem result16 : (dats m 0 c).arrAt 16 cfg0.N = by16 (inp m c).key := by
  refine (dats m 0 c).arrAt_eq_of_covers 16 _ (by decide +kernel) fun t hf y => ?_
  blk_simp
  rw [after0_16]
  frame_out
  simp only [key0 m c t, key1 m c t, key2 m c t, key3 m c t, read_tile, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, cast_same, read_fold]
  canon_tiles z h
  all_goals
    idx_vars z
    idx_vars y
    pointwise [part, fold, tile]
    exact at16 (inp m c).key t y0 y1 y2 y3 _ _ (by dsimp only; omega) (by dsimp only; omega)

end Cert.Front

end
-- ==== Proof.EvenValue.lean ====
module
public import proofs.«01_k».proof.Proof.EvenOut

/-! The front projection's values. -/

@[expose] public section

set_option maxRecDepth 100000
set_option maxHeartbeats 4000000

noncomputable section

open Cert.EvenIdeal Cert.EvenIdeal.Gen Idealize.ShloMosaic Idealize.ShloMosaic.TcCoe Idealize.SL.Sem

namespace Cert.Front

variable (m : (ℓ : Loc nD τ sig) → Buf (Elt Ideal) ℓ) (c : Dev nD)

/-- The values. -/
theorem result17 : (dats m 0 c).arrAt 17 cfg0.N = by1 (inp m c).value := by
  refine (dats m 0 c).arrAt_eq_of_covers 17 _ (by decide +kernel) fun t hf y => ?_
  blk_simp
  rw [after0_17]
  frame_out
  simp only [k0_pay316, k0_pay317, k0_pay347, k0_pay374, k0_pay405, value0' m c t, value1' m c t, value2' m c t, value3' m c t]
  canon_tiles z h
  all_goals
    idx_vars z
    idx_vars y
    pointwise [tile]
    exact at17 (inp m c).value t y0 y1 y2 y3 _ _ (by (try dsimp only); omega) (by (try dsimp only); omega)

/-- The values of every fourth position. -/
theorem result18 : (dats m 0 c).arrAt 18 cfg0.N = by4 (inp m c).value := by
  refine (dats m 0 c).arrAt_eq_of_covers 18 _ (by decide +kernel) fun t hf y => ?_
  blk_simp
  rw [after0_18]
  frame_out
  simp only [value0 m c t, value1 m c t, value2 m c t, value3 m c t, read_tile, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, cast_same, read_fold]
  canon_tiles z h
  all_goals
    idx_vars z
    idx_vars y
    pointwise [part, fold, tile]
    exact at18 (inp m c).value t y0 y1 y2 y3 _ _ (by dsimp only; omega) (by dsimp only; omega)

/-- The values of every sixteenth position. -/
theorem result19 : (dats m 0 c).arrAt 19 cfg0.N = by16 (inp m c).value := by
  refine (dats m 0 c).arrAt_eq_of_covers 19 _ (by decide +kernel) fun t hf y => ?_
  blk_simp
  rw [after0_19]
  frame_out
  simp only [value0 m c t, value1 m c t, value2 m c t, value3 m c t, read_tile, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, cast_same, read_fold]
  canon_tiles z h
  all_goals
    idx_vars z
    idx_vars y
    pointwise [part, fold, tile]
    exact at19 (inp m c).value t y0 y1 y2 y3 _ _ (by dsimp only; omega) (by dsimp only; omega)

end Cert.Front

end
-- ==== Proof.EvenRef.lean ====
module
public import proofs.«01_k».proof.Proof.Gen.EvenReferenceIdeal.Read
public import proofs.«01_k».proof.Proof.EvenMath
public import Idealize.ShloMosaic.Lib.Pipeline.ValueKit.Point

/-! The front projection's mathematics, as the reference computes it. -/

@[expose] public section

set_option maxRecDepth 100000
set_option maxHeartbeats 2000000

noncomputable section

open Cert.EvenReferenceIdeal Cert.EvenReferenceIdeal.Gen Cert.EvenReferenceIdeal.Read Idealize.ShloMosaic Idealize.ShloMosaic.TcCoe Idealize.SL.Sem

namespace Cert.Front.Ref

variable (a0 : Vec Ideal S65536x1024 .f32) (a1 : Vec Ideal S1x1024 .f32) (a2 : Vec Ideal S1x1024x4224 .f32)
  (a3 a4 : Vec Ideal S1x1664 .f32)

/-- What the projection is computed from, read off the arguments. -/
def inpOf : Inp where
  X r l := a0 (ix2 r l)
  n l := a1 (ix2 0 l)
  W k l := a2 (ix3 0 k l)
  mp l := a3 (ix2 0 l)
  mn l := a4 (ix2 0 l)

/-- The normed input. -/
theorem xn_at (r : Fin 65536) (l : Fin 1024) : val_main_v13 a0 a1 (ix2 r l) = (inpOf a0 a1 a2 a3 a4).xn r l := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The projection. -/
theorem proj_at (r : Fin 65536) (l : Fin 4224) : val_main_v15 a0 a1 a2 (ix2 r l) = (inpOf a0 a1 a2 a3 a4).proj r l := by
  have hx := xn_at a0 a1 a2 a3 a4
  unfold val_main_v15
  generalize val_main_v13 a0 a1 = x at hx ⊢
  pointwise [val_main_v14]
  simp only [hx]
  rfl

/-- The angle of the queries' rotation. -/
theorem angle_at (s : Fin 2048) (f : Fin 32) : val_main_v54 (F := Ideal) (ix2 s f) = angle s f := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_cst_3, val_main_cst_4, val_main_cst_5, val_main_cst_6]
  rfl

/-- The angle of the keys' rotation. -/
theorem angle_at' (s : Fin 2048) (f : Fin 32) : val_main_v92 (F := Ideal) (ix2 s f) = angle s f := angle_at s f

/-- The padding is zero. -/
theorem zero_int : (FloatOps.sitofp .f32 (0#32 : BitVec 32) : Ideal .f32) = (0 : EReal) := by
  show (((0#32 : BitVec 32).toInt : ℝ) : EReal) = 0
  simp

/-- The shifted columns, by sequence and position. -/
theorem shifted_at (b : Fin 32) (s : Fin 2048) (l : Fin 1664) : val_main_v33 a0 a1 a2 a3 a4 (ix3 b s l)
    = (inpOf a0 a1 a2 a3 a4).shifted ⟨b.val * 2048 + s.val, by omega⟩ l := by
  have hx := proj_at a0 a1 a2 a3 a4
  unfold val_main_v33 val_main_v32 val_main_v29 val_main_v28 val_main_v27 val_main_v24 val_main_v23 val_main_v22 val_main_v21 val_main_v20 val_main_v17 val_main_v16
  generalize val_main_v15 a0 a1 a2 = x at hx ⊢
  pointwise [val_main_v31, val_main_v30, val_main_v26, val_main_v25, val_main_v19, val_main_v18, val_main_c, val_main_c_2, val_main_call0_v0, val_main_call1_v0]
  simp only [hx, zero_int]
  have hb : (if h : 1 ≤ s.val ∧ s.val - 1 < 2047 then (inpOf a0 a1 a2 a3 a4).proj ⟨b.val * 2048 + (s.val - 1), by omega⟩ ⟨l.val, by omega⟩ else (0 : EReal))
      = (inpOf a0 a1 a2 a3 a4).before ⟨b.val * 2048 + s.val, by omega⟩ ⟨l.val, by omega⟩ := by
    unfold Inp.before
    by_cases h : s.val = 0
    · rw [dif_neg (by omega), if_pos (by simp only; omega)]
    · rw [dif_pos (by omega), if_neg (by simp only; omega)]
      exact congrArg (fun r => (inpOf a0 a1 a2 a3 a4).proj r ⟨l.val, by omega⟩) (Fin.ext (by simp only; omega))
  have ha : (if h : s.val < 2047 then (inpOf a0 a1 a2 a3 a4).proj ⟨b.val * 2048 + (1 + s.val), by omega⟩ ⟨l.val, by omega⟩ else (0 : EReal))
      = (inpOf a0 a1 a2 a3 a4).after ⟨b.val * 2048 + s.val, by omega⟩ ⟨l.val, by omega⟩ := by
    unfold Inp.after
    by_cases h : s.val < 2047
    · rw [dif_pos h, dif_neg (by simp only; omega)]
      exact congrArg (fun r => (inpOf a0 a1 a2 a3 a4).proj r ⟨l.val, by omega⟩) (Fin.ext (by simp only; omega))
    · rw [dif_neg h, dif_pos (by simp only; omega)]
  exact congrArg₂ _ (congrArg₂ _ rfl (congrArg₂ _ rfl (congrArg₂ _ hb rfl))) (congrArg₂ _ rfl (congrArg₂ _ ha rfl))

/-- The shifted columns, the rows in one list. -/
theorem shifted_flat (r : Fin 65536) (l : Fin 1664) : val_main_v34 a0 a1 a2 a3 a4 (ix2 r l) = (inpOf a0 a1 a2 a3 a4).shifted r l := by
  have hx := shifted_at a0 a1 a2 a3 a4
  unfold val_main_v34
  generalize val_main_v33 a0 a1 a2 a3 a4 = x at hx ⊢
  pointwise
  exact (hx _ _ _).trans (congrArg (fun r => (inpOf a0 a1 a2 a3 a4).shifted r l) (Fin.ext (by simp only; omega)))

/-- The recurrence's gate. -/
theorem gateA_at (r : Fin 65536) (l : Fin 512) : val_main_v35 a0 a1 a2 (ix2 r l) = (inpOf a0 a1 a2 a3 a4).proj r ⟨1664 + l.val, by omega⟩ := by
  have hx := proj_at a0 a1 a2 a3 a4
  unfold val_main_v35
  generalize val_main_v15 a0 a1 a2 = x at hx ⊢
  pointwise
  exact hx _ _

/-- The attention's gate. -/
theorem gateB_at (r : Fin 65536) (l : Fin 512) : val_main_v36 a0 a1 a2 (ix2 r l) = (inpOf a0 a1 a2 a3 a4).proj r ⟨3712 + l.val, by omega⟩ := by
  have hx := proj_at a0 a1 a2 a3 a4
  unfold val_main_v36
  generalize val_main_v15 a0 a1 a2 = x at hx ⊢
  pointwise
  exact hx _ _

/-- The position of a row. -/
theorem pos_eq (b : Fin 32) (s : Fin 2048) : (⟨(b.val * 2048 + s.val) % 2048, by omega⟩ : Fin 2048) = s := Fin.ext (by simp only; omega)

/-- The rotated keys, by head and lane. -/
theorem key_at (b : Fin 32) (s : Fin 2048) (h : Fin 8) (d : Fin 64) : val_main_v110 a0 a1 a2 (ix4 b s h d)
    = (inpOf a0 a1 a2 a3 a4).key ⟨b.val * 2048 + s.val, by omega⟩ ⟨h.val * 64 + d.val, by omega⟩ := by
  have hx := proj_at a0 a1 a2 a3 a4
  have hg := angle_at'
  unfold val_main_v110 val_main_v109 val_main_v108 val_main_v107 val_main_v105 val_main_v103 val_main_v102 val_main_v100 val_main_v98 val_main_v97 val_main_v76 val_main_v75 val_main_v106 val_main_v104 val_main_v101 val_main_v99 val_main_v96 val_main_v95 val_main_v94 val_main_v93
  generalize val_main_v15 a0 a1 a2 = x at hx ⊢
  generalize val_main_v92 (F := Ideal) = g at hg ⊢
  pointwise
  unfold Inp.key
  simp only [pos_eq]
  rw [rope_split]
  simp only [hx, hg]
  rfl

/-- The rotated and scaled queries, by head and lane. -/
theorem query_at (b : Fin 32) (s : Fin 2048) (h : Fin 8) (d : Fin 64) : val_main_v74 a0 a1 a2 (ix4 b s h d)
    = (inpOf a0 a1 a2 a3 a4).query ⟨b.val * 2048 + s.val, by omega⟩ ⟨h.val * 64 + d.val, by omega⟩ := by
  have hx := proj_at a0 a1 a2 a3 a4
  have hg := angle_at
  unfold val_main_v74 val_main_v73 val_main_v71 val_main_v70 val_main_v69 val_main_v67 val_main_v65 val_main_v64 val_main_v62 val_main_v60 val_main_v59 val_main_v38 val_main_v37 val_main_v68 val_main_v66 val_main_v63 val_main_v61 val_main_v58 val_main_v57 val_main_v56 val_main_v55
  generalize val_main_v15 a0 a1 a2 = x at hx ⊢
  generalize val_main_v54 (F := Ideal) = g at hg ⊢
  pointwise [val_main_v72, val_main_cst_7]
  unfold Inp.query
  simp only [pos_eq]
  rw [rope_split]
  simp only [hx, hg]
  rfl

/-- The queries, every fourth. -/
theorem query4_at (b : Fin 32) (e : Fin 4) (j : Fin 512) (l : Fin 512) : val_main_v114 a0 a1 a2 (ix4 b e j l)
    = (inpOf a0 a1 a2 a3 a4).query ⟨b.val * 2048 + j.val * 4 + e.val, by omega⟩ l := by
  have hx := query_at a0 a1 a2 a3 a4
  unfold val_main_v114 val_main_v113
  generalize val_main_v74 a0 a1 a2 = x at hx ⊢
  pointwise
  exact (hx _ _ _ _).trans (congrArg₂ (inpOf a0 a1 a2 a3 a4).query (Fin.ext (by simp only; omega)) (Fin.ext (by simp only; omega)))

/-- The queries, every sixteenth. -/
theorem query16_at (b : Fin 32) (e : Fin 16) (j : Fin 128) (l : Fin 512) : val_main_v116 a0 a1 a2 (ix4 b e j l)
    = (inpOf a0 a1 a2 a3 a4).query ⟨b.val * 2048 + j.val * 16 + e.val, by omega⟩ l := by
  have hx := query_at a0 a1 a2 a3 a4
  unfold val_main_v116 val_main_v115
  generalize val_main_v74 a0 a1 a2 = x at hx ⊢
  pointwise
  exact (hx _ _ _ _).trans (congrArg₂ (inpOf a0 a1 a2 a3 a4).query (Fin.ext (by simp only; omega)) (Fin.ext (by simp only; omega)))

/-- The keys, one by one. -/
theorem key1_at (b : Fin 32) (e : Fin 1) (j : Fin 2048) (l : Fin 512) : val_main_v118 a0 a1 a2 (ix4 b e j l)
    = (inpOf a0 a1 a2 a3 a4).key ⟨b.val * 2048 + j.val * 1 + e.val, by omega⟩ l := by
  have hx := key_at a0 a1 a2 a3 a4
  unfold val_main_v118 val_main_v117
  generalize val_main_v110 a0 a1 a2 = x at hx ⊢
  pointwise
  exact (hx _ _ _ _).trans (congrArg₂ (inpOf a0 a1 a2 a3 a4).key (Fin.ext (by (try simp only) <;> omega)) (Fin.ext (by (try simp only) <;> omega)))

/-- The keys, every fourth. -/
theorem key4_at (b : Fin 32) (e : Fin 4) (j : Fin 512) (l : Fin 512) : val_main_v120 a0 a1 a2 (ix4 b e j l)
    = (inpOf a0 a1 a2 a3 a4).key ⟨b.val * 2048 + j.val * 4 + e.val, by omega⟩ l := by
  have hx := key_at a0 a1 a2 a3 a4
  unfold val_main_v120 val_main_v119
  generalize val_main_v110 a0 a1 a2 = x at hx ⊢
  pointwise
  exact (hx _ _ _ _).trans (congrArg₂ (inpOf a0 a1 a2 a3 a4).key (Fin.ext (by simp only; omega)) (Fin.ext (by simp only; omega)))

/-- The keys, every sixteenth. -/
theorem key16_at (b : Fin 32) (e : Fin 16) (j : Fin 128) (l : Fin 512) : val_main_v122 a0 a1 a2 (ix4 b e j l)
    = (inpOf a0 a1 a2 a3 a4).key ⟨b.val * 2048 + j.val * 16 + e.val, by omega⟩ l := by
  have hx := key_at a0 a1 a2 a3 a4
  unfold val_main_v122 val_main_v121
  generalize val_main_v110 a0 a1 a2 = x at hx ⊢
  pointwise
  exact (hx _ _ _ _).trans (congrArg₂ (inpOf a0 a1 a2 a3 a4).key (Fin.ext (by simp only; omega)) (Fin.ext (by simp only; omega)))

/-- The values, one by one. -/
theorem value1_at (b : Fin 32) (e : Fin 1) (j : Fin 2048) (l : Fin 512) : val_main_v124 a0 a1 a2 (ix4 b e j l)
    = (inpOf a0 a1 a2 a3 a4).value ⟨b.val * 2048 + j.val * 1 + e.val, by omega⟩ l := by
  have hx := proj_at a0 a1 a2 a3 a4
  unfold val_main_v124 val_main_v123 val_main_v112 val_main_v111
  generalize val_main_v15 a0 a1 a2 = x at hx ⊢
  pointwise
  exact hx _ _

/-- The values, every fourth. -/
theorem value4_at (b : Fin 32) (e : Fin 4) (j : Fin 512) (l : Fin 512) : val_main_v126 a0 a1 a2 (ix4 b e j l)
    = (inpOf a0 a1 a2 a3 a4).value ⟨b.val * 2048 + j.val * 4 + e.val, by omega⟩ l := by
  have hx := proj_at a0 a1 a2 a3 a4
  unfold val_main_v126 val_main_v125 val_main_v112 val_main_v111
  generalize val_main_v15 a0 a1 a2 = x at hx ⊢
  pointwise
  exact hx _ _

/-- The values, every sixteenth. -/
theorem value16_at (b : Fin 32) (e : Fin 16) (j : Fin 128) (l : Fin 512) : val_main_v128 a0 a1 a2 (ix4 b e j l)
    = (inpOf a0 a1 a2 a3 a4).value ⟨b.val * 2048 + j.val * 16 + e.val, by omega⟩ l := by
  have hx := proj_at a0 a1 a2 a3 a4
  unfold val_main_v128 val_main_v127 val_main_v112 val_main_v111
  generalize val_main_v15 a0 a1 a2 = x at hx ⊢
  pointwise
  exact hx _ _

end Cert.Front.Ref

end
-- ==== Proof.ClaimEven.lean ====
module
public import proofs.«01_k».proof.Defs
public import proofs.«01_k».proof.Proof.Gen.Even.Frame
public import proofs.«01_k».proof.Proof.EvenMix
public import proofs.«01_k».proof.Proof.EvenFlat
public import proofs.«01_k».proof.Proof.EvenQuery
public import proofs.«01_k».proof.Proof.EvenKey
public import proofs.«01_k».proof.Proof.EvenValue
public import proofs.«01_k».proof.Proof.EvenRef
public import Idealize.ShloMosaic.Lib.Claim

/-! The claims about the front projection. -/

@[expose] public section

set_option maxHeartbeats 1000000

noncomputable section

namespace Cert.Front

open Idealize.ShloMosaic Idealize.SL.Sem

/-- The kernel runs to its end and leaves its arguments as they were. -/
theorem frame_kernel : Cert.quiescent_Even (hEven := Cert.Even.Gen.facts) := fun m ρ _ => Cert.Even.Gen.frame m ρ

/-- The kernel at exact arithmetic runs to its end and leaves its arguments as they were. -/
theorem frame_ideal : Cert.quiescent_EvenIdeal (hEvenIdeal := Cert.EvenIdeal.Gen.facts) := fun m ρ _ => Cert.EvenIdeal.Gen.frame m ρ

/-- The reference at exact arithmetic runs to its end and leaves its arguments as they were. -/
theorem frame_reference : Cert.quiescent_EvenReferenceIdeal (hEvenReferenceIdeal := Cert.EvenReferenceIdeal.Gen.facts) := fun m ρ _ =>
  (θ_run Cert.EvenReferenceIdeal.defs _ _).mono (fun r h => ⟨fun c => (h c).2.2.2.2.2.2.2.2.2.2.2, sem_eq_zero_of_no_sems (by decide) r.2⟩)
    (Cert.EvenReferenceIdeal.Value.run (F := Ideal) m ρ)

open Cert.EvenReferenceIdeal.Read in
/-- The reference's results are the kernel's, where the two are computed from the same. -/
theorem results_eq (m : (ℓ : Loc Cert.EvenIdeal.nD Cert.EvenIdeal.τ Cert.EvenIdeal.sig) → Buf (Elt Ideal) ℓ) (c : Dev Cert.EvenIdeal.nD)
    (a0 : Vec Ideal ⟨2, ![65536, 1024]⟩ .f32) (a1 : Vec Ideal ⟨2, ![1, 1024]⟩ .f32) (a2 : Vec Ideal ⟨3, ![1, 1024, 4224]⟩ .f32)
    (a3 a4 : Vec Ideal ⟨2, ![1, 1664]⟩ .f32) (h : Ref.inpOf a0 a1 a2 a3 a4 = inp m c) :
    val_main_v34 a0 a1 a2 a3 a4 = out9 m c ∧ val_main_v35 a0 a1 a2 = out10 m c ∧ val_main_v36 a0 a1 a2 = out11 m c
      ∧ val_main_v114 a0 a1 a2 = by4 (inp m c).query ∧ val_main_v116 a0 a1 a2 = by16 (inp m c).query
      ∧ val_main_v118 a0 a1 a2 = by1 (inp m c).key ∧ val_main_v120 a0 a1 a2 = by4 (inp m c).key ∧ val_main_v122 a0 a1 a2 = by16 (inp m c).key
      ∧ val_main_v124 a0 a1 a2 = by1 (inp m c).value ∧ val_main_v126 a0 a1 a2 = by4 (inp m c).value ∧ val_main_v128 a0 a1 a2 = by16 (inp m c).value := by
  refine ⟨?_, ?_, ?_, ?_, ?_, ?_, ?_, ?_, ?_, ?_, ?_⟩ <;> funext i <;> idx_vars i
  · exact (Ref.shifted_flat a0 a1 a2 a3 a4 i0 i1).trans (by rw [h]; rfl)
  · exact (Ref.gateA_at a0 a1 a2 a3 a4 i0 i1).trans (by rw [h]; rfl)
  · exact (Ref.gateB_at a0 a1 a2 a3 a4 i0 i1).trans (by rw [h]; rfl)
  · exact (Ref.query4_at a0 a1 a2 a3 a4 i0 i1 i2 i3).trans (by rw [h]; rfl)
  · exact (Ref.query16_at a0 a1 a2 a3 a4 i0 i1 i2 i3).trans (by rw [h]; rfl)
  · exact (Ref.key1_at a0 a1 a2 a3 a4 i0 i1 i2 i3).trans (by rw [h]; exact congrArg (fun r => (inp m c).key r i3) (Fin.ext (show i0.val * 2048 + i2.val * 1 + i1.val = i0.val * 2048 + i2.val from by omega)))
  · exact (Ref.key4_at a0 a1 a2 a3 a4 i0 i1 i2 i3).trans (by rw [h]; rfl)
  · exact (Ref.key16_at a0 a1 a2 a3 a4 i0 i1 i2 i3).trans (by rw [h]; rfl)
  · exact (Ref.value1_at a0 a1 a2 a3 a4 i0 i1 i2 i3).trans (by rw [h]; exact congrArg (fun r => (inp m c).value r i3) (Fin.ext (show i0.val * 2048 + i2.val * 1 + i1.val = i0.val * 2048 + i2.val from by omega)))
  · exact (Ref.value4_at a0 a1 a2 a3 a4 i0 i1 i2 i3).trans (by rw [h]; rfl)
  · exact (Ref.value16_at a0 a1 a2 a3 a4 i0 i1 i2 i3).trans (by rw [h]; rfl)

open Cert.EvenReferenceIdeal.Read in
/-- The two programs compute the same, at exact arithmetic. -/
theorem algebraic : Cert.algebraic_EvenIdeal_EvenReferenceIdeal (hEvenIdeal := Cert.EvenIdeal.Gen.facts)
    (hEvenReferenceIdeal := Cert.EvenReferenceIdeal.Gen.facts) := fun m g m' g' _ hag =>
  ⟨fun c => out9 m c, fun c => out10 m c, fun c => out11 m c, fun c => by4 (inp m c).query, fun c => by16 (inp m c).query,
    fun c => by1 (inp m c).key, fun c => by4 (inp m c).key, fun c => by16 (inp m c).key,
    fun c => by1 (inp m c).value, fun c => by4 (inp m c).value, fun c => by16 (inp m c).value,
    (θ_run Cert.EvenIdeal.defs _ _).mono (fun r h c => by
      obtain ⟨h9, h10, h11, h12, h13, h14, h15, h16, h17, h18, h19, hargs⟩ := h c
      exact ⟨h9.trans (result9 m c), h10.trans (result10 m c), h11.trans (result11 m c), h12.trans (result12 m c), h13.trans (result13 m c),
        h14.trans (result14 m c), h15.trans (result15 m c), h16.trans (result16 m c), h17.trans (result17 m c), h18.trans (result18 m c),
        h19.trans (result19 m c), hargs⟩) (Cert.EvenIdeal.Value.run_blocks (F := Ideal) m g),
    (θ_run Cert.EvenReferenceIdeal.defs _ _).mono (fun r h c => by
      obtain ⟨h9, h10, h11, h12, h13, h14, h15, h16, h17, h18, h19, hargs⟩ := h c
      obtain ⟨e0, e1, e2, e3, e4⟩ := hag c
      obtain ⟨r9, r10, r11, r12, r13, r14, r15, r16, r17, r18, r19⟩ := results_eq m c _ _ _ _ _ (show Ref.inpOf
        (m' ((c.tc : Thread Cert.EvenReferenceIdeal.nD Cert.EvenReferenceIdeal.τ).loc Cert.EvenReferenceIdeal.main_arg0))
        (m' ((c.tc : Thread Cert.EvenReferenceIdeal.nD Cert.EvenReferenceIdeal.τ).loc Cert.EvenReferenceIdeal.main_arg1))
        (m' ((c.tc : Thread Cert.EvenReferenceIdeal.nD Cert.EvenReferenceIdeal.τ).loc Cert.EvenReferenceIdeal.main_arg2))
        (m' ((c.tc : Thread Cert.EvenReferenceIdeal.nD Cert.EvenReferenceIdeal.τ).loc Cert.EvenReferenceIdeal.main_arg3))
        (m' ((c.tc : Thread Cert.EvenReferenceIdeal.nD Cert.EvenReferenceIdeal.τ).loc Cert.EvenReferenceIdeal.main_arg4)) = inp m c from by
          unfold Ref.inpOf inp
          rw [e0, e1, e2, e3, e4])
      exact ⟨h9.trans r9, h10.trans r10, h11.trans r11, h12.trans r12, h13.trans r13, h14.trans r14, h15.trans r15, h16.trans r16,
        h17.trans r17, h18.trans r18, h19.trans r19, hargs⟩)
      (Cert.EvenReferenceIdeal.Value.run (F := Ideal) m' g')⟩

end Cert.Front

end
-- ==== Proof.lean ====
module

public import proofs.«01_k».proof.Proof.ClaimGla
public import proofs.«01_k».proof.Proof.ClaimMid
public import proofs.«01_k».proof.Proof.ClaimEven

@[expose] public section

noncomputable section

namespace Cert.Proof

/-- Every claim holds. -/
theorem claim : Cert.Claim := ⟨Cert.Kernel.Gen.facts, Cert.KernelIdeal.Gen.facts, Cert.ReferenceIdeal.Gen.facts,
  Cert.Mid.Gen.facts, Cert.MidIdeal.Gen.facts, Cert.MidReferenceIdeal.Gen.facts,
  Cert.Even.Gen.facts, Cert.EvenIdeal.Gen.facts, Cert.EvenReferenceIdeal.Gen.facts,
  Cert.Gla.frame_kernel, Cert.Gla.frame_ideal, Cert.Gla.frame_reference,
  Cert.Middle.frame_kernel, Cert.Middle.frame_ideal, Cert.Middle.frame_reference,
  Cert.Front.frame_kernel, Cert.Front.frame_ideal, Cert.Front.frame_reference,
  trivial, Cert.Gla.algebraic, trivial, Cert.Middle.algebraic, trivial, Cert.Front.algebraic⟩

end Cert.Proof

end
